-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024 : Shape := ⟨1, ![1024]⟩
abbrev S2x1024 : Shape := ⟨2, ![2, 1024]⟩
abbrev S4x2x1024 : Shape := ⟨3, ![4, 2, 1024]⟩
abbrev S3 : Shape := ⟨1, ![3]⟩
abbrev S_ : Shape := ⟨0, ![]⟩
abbrev S1024x1 : Shape := ⟨2, ![1024, 1]⟩
abbrev S1x1024 : Shape := ⟨2, ![1, 1024]⟩
abbrev S1x2x1024 : Shape := ⟨3, ![1, 2, 1024]⟩
abbrev S1 : Shape := ⟨1, ![1]⟩

abbrev nBuf : Space → Nat
  | .hbm => 4
  | .vmem => 4
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024, .f32⟩
  | .hbm, ⟨3, _⟩ => ⟨S2x1024, .f32⟩
  | .local _ .vmem, ⟨0, _⟩ => ⟨S1024x1024, .f32⟩
  | .local _ .vmem, ⟨1, _⟩ => ⟨S1024x1024, .f32⟩
  | .local _ .vmem, ⟨2, _⟩ => ⟨S2x1024, .f32⟩
  | .local _ .vmem, ⟨3, _⟩ => ⟨S4x2x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_40 : BitVec 32 := 1#32
  let v74 : BitVec 32 := Scalar.addi v2 c1_i32_40
  let c4_i32_41 : BitVec 32 := 4#32
  let c0_i32_42 : BitVec 32 := 0#32
  let v75 : BitVec 1 := Scalar.cmpi .eq c4_i32_41 c0_i32_42
  let c1_i32_43 : BitVec 32 := 1#32
  let v76 : BitVec 32 := Scalar.select v75 c1_i32_43 c4_i32_41
  let v77 : BitVec 32 := Scalar.remsi v74 v76
  let c0_i32_45 : BitVec 32 := 0#32
  let v79 : BitVec 1 := Scalar.cmpi .slt v77 c0_i32_45
  let c0_i32_46 : BitVec 32 := 0#32
  let v80 : BitVec 1 := Scalar.cmpi .slt v76 c0_i32_46
  let v81 : BitVec 1 := Scalar.xori v79 v80
  let c0_i32_44 : BitVec 32 := 0#32
  let v78 : BitVec 1 := Scalar.cmpi .ne v77 c0_i32_44
  let v82 : BitVec 1 := Scalar.andi v81 v78
  let v83 : BitVec 32 := Scalar.addi v77 v76
  let v84 : BitVec 32 := Scalar.select v82 v83 v77
  let c1_i32_51 : BitVec 32 := 1#32
  let v85 : BitVec 32 := Scalar.muli v84 c1_i32_51
  let v86 : BitVec 32 := Scalar.addi c0_i32_52 v85
  v86.toNat
def k0_dev5 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_57 : BitVec 32 := 2#32
  let v95 : BitVec 32 := Scalar.addi v2 c2_i32_57
  let c4_i32_58 : BitVec 32 := 4#32
  let c0_i32_59 : BitVec 32 := 0#32
  let v96 : BitVec 1 := Scalar.cmpi .eq c4_i32_58 c0_i32_59
  let c1_i32_60 : BitVec 32 := 1#32
  let v97 : BitVec 32 := Scalar.select v96 c1_i32_60 c4_i32_58
  let v98 : BitVec 32 := Scalar.remsi v95 v97
  let c0_i32_62 : BitVec 32 := 0#32
  let v100 : BitVec 1 := Scalar.cmpi .slt v98 c0_i32_62
  let c0_i32_63 : BitVec 32 := 0#32
  let v101 : BitVec 1 := Scalar.cmpi .slt v97 c0_i32_63
  let v102 : BitVec 1 := Scalar.xori v100 v101
  let c0_i32_61 : BitVec 32 := 0#32
  let v99 : BitVec 1 := Scalar.cmpi .ne v98 c0_i32_61
  let v103 : BitVec 1 := Scalar.andi v102 v99
  let v104 : BitVec 32 := Scalar.addi v98 v97
  let v105 : BitVec 32 := Scalar.select v103 v104 v98
  let c1_i32_68 : BitVec 32 := 1#32
  let v106 : BitVec 32 := Scalar.muli v105 c1_i32_68
  let v107 : BitVec 32 := Scalar.addi c0_i32_69 v106
  v107.toNat
def k0_dev6 (d0 : Dev nD) : Nat :=
  let c0_i32_86 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_74 : BitVec 32 := 3#32
  let v116 : BitVec 32 := Scalar.addi v2 c3_i32_74
  let c4_i32_75 : BitVec 32 := 4#32
  let c0_i32_76 : BitVec 32 := 0#32
  let v117 : BitVec 1 := Scalar.cmpi .eq c4_i32_75 c0_i32_76
  let c1_i32_77 : BitVec 32 := 1#32
  let v118 : BitVec 32 := Scalar.select v117 c1_i32_77 c4_i32_75
  let v119 : BitVec 32 := Scalar.remsi v116 v118
  let c0_i32_79 : BitVec 32 := 0#32
  let v121 : BitVec 1 := Scalar.cmpi .slt v119 c0_i32_79
  let c0_i32_80 : BitVec 32 := 0#32
  let v122 : BitVec 1 := Scalar.cmpi .slt v118 c0_i32_80
  let v123 : BitVec 1 := Scalar.xori v121 v122
  let c0_i32_78 : BitVec 32 := 0#32
  let v120 : BitVec 1 := Scalar.cmpi .ne v119 c0_i32_78
  let v124 : BitVec 1 := Scalar.andi v123 v120
  let v125 : BitVec 32 := Scalar.addi v119 v118
  let v126 : BitVec 32 := Scalar.select v124 v125 v119
  let c1_i32_85 : BitVec 32 := 1#32
  let v127 : BitVec 32 := Scalar.muli v126 c1_i32_85
  let v128 : BitVec 32 := Scalar.addi c0_i32_86 v127
  v128.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S2x1024 : Shape := ⟨2, ![2, 1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .i32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S1x1024, .f32⟩
  | .hbm, ⟨51, _⟩ => ⟨S2x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.Slots.lean ====
/-
The four slots of the exchange buffer: slot `j` is the rows of the `[4, 2, 1024]` scratch buffer whose first coordinate is
`j`. Slot 0 holds a device's own partial sums and is what it sends; slot `k + 1` is where its peer's `k`-th copy lands.
Everything that moves is one `[2, 1024]` block `p`, so a slot holding `p` is described by one function on the whole buffer,
`fill p`, that does not mention the slot.
-/
module

public import proofs.«01_k».proof.Proof.Gen.KernelIdeal
public import proofs.«01_k».proof.Proof.Gen.KernelIdeal.Skeleton
public import Idealize.ShloMosaic.Lib.Pipeline.Value
public import Idealize.ShloMosaic.Lib.Ring

@[expose] public section

noncomputable section

namespace Cert.Exchange

open Cert.KernelIdeal Cert.KernelIdeal.Gen
open Idealize.ShloMosaic

variable {F : FTy → Type} [FloatOps F]

abbrev commM : Memref sig .tc .vmem S4x2x1024 .f32 := Memref.whole cc0_scratch0

theorem slot_in : ∀ (j : Fin 4) (a : Fin 3), (![j.val, 0, 0] : Fin 3 → Nat) a + S1x2x1024.size a ≤ S4x2x1024.size a := by decide

/-- The rectangle of slot `j`. -/
abbrev slotRect (j : Fin 4) : Rect S4x2x1024 := Rect.unit (s := S4x2x1024) ![j.val, 0, 0] S1x2x1024.size (slot_in j)

/-- Slot `j` as the copies name it: a `[2, 1024]` block. -/
abbrev slotM (j : Fin 4) : Memref sig .tc .vmem S2x1024 .f32 :=
  (commM.slice (slotRect j) (fun _ => rfl)).squeeze S2x1024 squeezes_S1x2x1024_S2x1024

/-- The exchange buffer's contents with the block `p` in every slot. -/
def fill (p : FVec F S2x1024 .f32) : (cc0_scratch0 : Ref sig .tc).ty.Contents (Elt F) := fun i => p (fun a => i a.succ)

/-- The elements under a slot's block are the slot's rectangle. -/
theorem slot_set (j : Fin 4) : (slotM j).view.set = (slotRect j).set :=
  (View.set_reshape _ _).trans (View.set_slice_whole cc0_scratch0 (slotRect j))

/-- Different slots share no element. -/
theorem slot_disjoint (j j' : Fin 4) (h : j ≠ j') : Disjoint (slotRect j).set (slotRect j').set :=
  Ring.lead_disjoint (s := S4x2x1024) 0 1 (fun b : Fin 4 => ![b.val, 0, 0]) S1x2x1024.size slot_in (by decide) rfl j j' h

/-- The slots make up the buffer. -/
theorem slot_cover : Finset.univ.biUnion (fun j : Fin 4 => (slotRect j).set) = Finset.univ :=
  Ring.lead_cover (s := S4x2x1024) 0 1 (fun b : Fin 4 => ![b.val, 0, 0]) S1x2x1024.size slot_in (by decide) (by decide) rfl (by decide) rfl

/-- Inside a slot, row and column are those of the buffer. -/
theorem slot_tail (j : Fin 4) (x : (slotRect j).shape.Idx) (a : Fin 2) : ((slotRect j).emb x a.succ : Nat) = (x a.succ : Nat) := by
  rw [Rect.emb_apply]
  show (![j.val, 0, 0] : Fin 3 → Nat) a.succ + 1 * (x a.succ : Nat) = (x a.succ : Nat)
  fin_cases a <;> simp

/-- Loading slot `j` of a buffer whose slots hold `p` reads `p` under a leading axis of one. -/
theorem load_fill (j : Fin 4) (p : FVec F S2x1024 .f32) :
    commM.view.readAt (Elt F) (slotRect j).toLoadRect (fill p) = k0_pay2 p := by
  funext x
  unfold k0_pay2
  dsimp only
  rw [shapeCast_addUnit_apply]
  show fill p ((slotRect j).emb x) = _
  unfold fill
  congr 1
  funext a
  exact Fin.ext (slot_tail j x a)

/-- A slot's block of a buffer whose slots hold `p` is `p`. -/
theorem read_fill (j : Fin 4) (p : FVec F S2x1024 .f32) : (slotM j).view.read (Elt F) (fill p) = p := by
  funext x
  show fill p ((slotRect j).emb (Shape.reshapeEquiv _ x)) = p x
  erw [Shape.reshapeEquiv_cons_one]
  unfold fill
  congr 1
  funext a
  exact Fin.ext (slot_tail j _ a)

/-- Landing `p` in slot `j` over any contents leaves the slot as `fill p` has it. -/
theorem land_fill (j : Fin 4) (p : FVec F S2x1024 .f32) (f : (cc0_scratch0 : Ref sig .tc).ty.Contents (Elt F)) :
    ∀ i ∈ (slotM j).view.set, (slotM j).view.write (Elt F) f p Finset.univ i = fill p i := by
  intro i hi
  obtain ⟨x, -, rfl⟩ := Finset.mem_map.mp hi
  refine ((slotM j).view.write_emb_of_mem f p (Finset.mem_univ x)).trans ?_
  have h := congrFun (read_fill j p) x
  exact h.symm

/-- Storing `p` under a leading axis of one in slot `j` leaves the slot as `fill p` has it. -/
theorem store_fill (j : Fin 4) (p : FVec F S2x1024 .f32) (f : (cc0_scratch0 : Ref sig .tc).ty.Contents (Elt F)) :
    ∀ i ∈ (slotRect j).set, (commM.access (slotRect j)).write (Elt F) f (k0_pay2 p) Finset.univ i = fill p i := by
  intro i hi
  have hs : (commM.access (slotRect j)).set = (slotRect j).set := View.set_slice_whole cc0_scratch0 (slotRect j)
  rw [← hs] at hi
  obtain ⟨x, -, rfl⟩ := Finset.mem_map.mp hi
  refine ((commM.access (slotRect j)).write_emb_of_mem f (k0_pay2 p) (Finset.mem_univ x)).trans ?_
  have h := congrFun (load_fill j p) x
  exact h.symm

end Cert.Exchange

end
-- ==== Proof.Cells.lean ====
/-
The exchange protocol. Device `c` sends its partial sums to the three devices `fwd k c` (`c + 1`, `c + 2`, `c + 3`), the
`k`-th copy landing in slot `k + 1` of its destination. Before that every device signals the barrier semaphore of the three
others and waits for three units on its own.

Each semaphore is a cell with one round. A barrier cell has three duties: duty `j` of device `d`'s cell is paid by the
device `fwd j d` that `d`'s `j`-th copy goes to, and hands `d` the slot the copy lands in. The receive cell of copy `k`
hands its device the landed slot, the send cell of copy `k` a third of the share of the sender's own slot.
-/
module

public import proofs.«01_k».proof.Proof.Slots
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring.Trips

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the launch's own copy and the exchange's, whose duties are named by three numbers. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The devices -/

set_option backward.proofsInPublic true in
/-- The device copy `k` of device `c` goes to: `c + k + 1` around the four. -/
def fwd (k : Fin 3) (c : Dev nD) : Dev nD := ⟨(c.val + (k.val + 1)) % 4, Nat.mod_lt _ (by decide)⟩

/-- The opposite copy leads back. -/
theorem fwd_rev_fwd : ∀ (k : Fin 3) (c : Dev nD), fwd k.rev (fwd k c) = c := by decide

theorem fwd_fwd_rev : ∀ (k : Fin 3) (c : Dev nD), fwd k (fwd k.rev c) = c := by decide

theorem dev1_eq : ∀ c : Dev nD, (⟨k0_dev1 c, k0_dev1_lt c⟩ : Dev nD) = fwd 0 c := by decide +kernel
theorem dev2_eq : ∀ c : Dev nD, (⟨k0_dev2 c, k0_dev2_lt c⟩ : Dev nD) = fwd 1 c := by decide +kernel
theorem dev3_eq : ∀ c : Dev nD, (⟨k0_dev3 c, k0_dev3_lt c⟩ : Dev nD) = fwd 2 c := by decide +kernel
theorem dev4_eq : ∀ c : Dev nD, (⟨k0_dev4 c, k0_dev4_lt c⟩ : Dev nD) = fwd 0 c := by decide +kernel
theorem dev5_eq : ∀ c : Dev nD, (⟨k0_dev5 c, k0_dev5_lt c⟩ : Dev nD) = fwd 1 c := by decide +kernel
theorem dev6_eq : ∀ c : Dev nD, (⟨k0_dev6 c, k0_dev6_lt c⟩ : Dev nD) = fwd 2 c := by decide +kernel

/-- Going to the `k`-th peer is a bijection of the devices. -/
def around (k : Fin 3) : Dev nD ≃ Dev nD := ⟨fwd k, fwd k.rev, fwd_rev_fwd k, fwd_fwd_rev k⟩

/-! ## The semaphores -/

theorem sem_in : ∀ (k : Fin 3) (a : Fin 1), (![k.val] : Fin 1 → Nat) a + S1.size a ≤ S3.size a := by decide

/-- The barrier semaphore, and the send and the receive semaphore of copy `k`. -/
abbrev barS : Sem sig := (SemArray.scalar (sig.barrier 0 rfl) : Sems sig S_).sem
abbrev sendS (k : Fin 3) : DmaSem sig :=
  (((cc0_scratch1 : DmaSems sig S3).slice (Rect.unit (s := S3) ![k.val] S1.size (sem_in k))).squeeze S_ squeezes_S1_S_).sem
abbrev recvS (k : Fin 3) : DmaSem sig :=
  (((cc0_scratch2 : DmaSems sig S3).slice (Rect.unit (s := S3) ![k.val] S1.size (sem_in k))).squeeze S_ squeezes_S1_S_).sem

abbrev barCell (c : Dev nD) : GSem nD τ sig := ((c : Thread nD τ), .reg barS)
abbrev sendCell (k : Fin 3) (c : Dev nD) : GSem nD τ sig := ((c : Thread nD τ), .dma (sendS k))
abbrev recvCell (k : Fin 3) (c : Dev nD) : GSem nD τ sig := ((c : Thread nD τ), .dma (recvS k))

/-- What a semaphore is for. -/
inductive Role where
  | bar
  | send (k : Fin 3)
  | recv (k : Fin 3)
  | other
  deriving DecidableEq

/-- The kernel's own six semaphores, sends first; and all seven of the exchange, the barrier first. -/
abbrev osem : Fin 6 → SemLoc sig := fun
  | 0 => .dma (sendS 0) | 1 => .dma (sendS 1) | 2 => .dma (sendS 2) | 3 => .dma (recvS 0) | 4 => .dma (recvS 1) | 5 => .dma (recvS 2)
abbrev csem : Fin 7 → SemLoc sig := fun
  | 0 => .reg barS | 1 => .dma (sendS 0) | 2 => .dma (sendS 1) | 3 => .dma (sendS 2)
  | 4 => .dma (recvS 0) | 5 => .dma (recvS 1) | 6 => .dma (recvS 2)
abbrev kcell (ck : Dev nD × Fin 7) : GSem nD τ sig := ((ck.1 : Thread nD τ), csem ck.2)

def role (s : SemLoc sig) : Role :=
  if s = .reg barS then .bar
  else if s = .dma (sendS 0) then .send 0 else if s = .dma (sendS 1) then .send 1 else if s = .dma (sendS 2) then .send 2
  else if s = .dma (recvS 0) then .recv 0 else if s = .dma (recvS 1) then .recv 1 else if s = .dma (recvS 2) then .recv 2
  else .other

theorem role_bar : role (.reg barS) = .bar := by decide
theorem role_send : ∀ k : Fin 3, role (.dma (sendS k)) = .send k := by decide
theorem role_recv : ∀ k : Fin 3, role (.dma (recvS k)) = .recv k := by decide

/-- The units one copy of a slot credits. -/
abbrev N : ℕ := (slotM 0).view.dmaCredit
theorem N_pos : 0 < N := View.dmaCredit_pos _ (by decide)

/-! ## Contents -/

/-- The blocks of `x` and `dy` device `c` stages, and its partial sums. -/
def xstg (c : Dev nD) : (cc0_stg0_0 : Ref sig .tc).ty.Contents (Elt F) :=
  (win0_0.blk (0 : Fin 1)).view.read (Elt F) (m ((c : Thread nD τ).loc main_arg0))
def ystg (c : Dev nD) : (cc0_stg1_0 : Ref sig .tc).ty.Contents (Elt F) :=
  (win0_1.blk (0 : Fin 1)).view.read (Elt F) (m ((c : Thread nD τ).loc main_arg1))
def part (c : Dev nD) : FVec F S2x1024 .f32 := k0_pay1 (xstg m c) (ystg m c)

/-- Slot `j` of device `c`, at a share, holding the block `p`; -/
def slotPts (c : Dev nD) (j : Fin 4) (q : PosShare TreeShare) (f : Buf (Elt F) ((c : Thread nD τ).loc cc0_scratch0)) : sProp 𝕄 :=
  (slotM j).view.loc (c : Thread nD τ) ↦[(slotM j).view.set]{q} f

omit [FloatOps F] in
/-- The slot's elements as the buffer's rectangle. -/
theorem slotPts_eq (c : Dev nD) (j : Fin 4) (q : PosShare TreeShare) (f : Buf (Elt F) ((c : Thread nD τ).loc cc0_scratch0)) :
    (slotPts c j q f : sProp 𝕄) = (((c : Thread nD τ).loc cc0_scratch0) ↦[(slotRect j).set]{q} f) := by
  unfold slotPts
  rw [slot_set]

/-- Slot `j` at some contents. -/
def anySlot (c : Dev nD) (j : Fin 4) : sProp 𝕄 := iprop(∃ f, slotPts c j fullShare f)

omit [FloatOps F] in
instance anySlot_storable (c : Dev nD) (j) : BI.Storable (upEmb : UEmb _ 𝕄) (anySlot (F := F) c j) := by unfold anySlot slotPts; infer_instance

omit [FloatOps F] in
instance slotPts_storable (c : Dev nD) (j q f) : BI.Storable (upEmb : UEmb _ 𝕄) (slotPts (F := F) c j q f) := by unfold slotPts; infer_instance

/-- Duty `j` of `c`'s barrier cell: slot `j + 1` of the device copy `j` goes to, and that its receive cell is at round 0. -/
def barPay (c : Dev nD) (j : Fin 3) : sProp 𝕄 :=
  iprop(anySlot (fwd j c) j.succ ∗ reached ER (recvCell j (fwd j c)) 0)
/-- What copy `k` leaves its destination `c`: slot `k + 1` holding the partial sums of the device it came from. -/
def recvPay (c : Dev nD) (k : Fin 3) : sProp 𝕄 := slotPts c k.succ fullShare (fill (part m (fwd k.rev c)))
/-- What copy `k` gives its sender back: its third of the sender's own slot. -/
def sendPay (c : Dev nD) (k : Fin 3) : sProp 𝕄 := slotPts c 0 (Ring.shares3 fullShare k) (fill (part m c))

/-! ## The schedule -/

/-- One round: a barrier cell has three duties of one unit, a send or receive cell one duty of a copy's credit. -/
def rounds : Rounds.Schedule (GSem nD τ sig) (Fin 3) 𝕄 where
  duties g r := if r = 0 ∧ g.1.2 = .tc then
      (match role g.2 with | .bar => Finset.univ | .send _ => {0} | .recv _ => {0} | .other => ∅) else ∅
  unitless _ := False
  amount g _ _ := match role g.2 with | .bar => 1 | _ => N
  payload g _ d := match role g.2 with
    | .bar => barPay g.1.1 d
    | .send k => sendPay m g.1.1 k
    | .recv k => recvPay m g.1.1 k
    | .other => iprop(emp)
  amount_pos g _ _ _ := by
    split
    · exact Nat.one_pos
    · exact N_pos

instance rounds_payload_storable (g : GSem nD τ sig) (r : ℕ) (d : Fin 3) :
    BI.Storable (upEmb : UEmb _ 𝕄) ((rounds (F := F) m).payload g r d) := by
  show BI.Storable upEmb (match role g.2 with
    | .bar => barPay g.1.1 d | .send k => sendPay m g.1.1 k | .recv k => recvPay m g.1.1 k | .other => iprop(emp))
  unfold barPay recvPay sendPay
  split <;> infer_instance

section Sched
variable (c : Dev nD)

theorem duties_bar : (rounds m).duties (barCell c) 0 = Finset.univ := by
  dsimp only [rounds]; rw [if_pos ⟨rfl, rfl⟩, role_bar]
theorem duties_send (k : Fin 3) : (rounds m).duties (sendCell k c) 0 = {0} := by
  dsimp only [rounds]; rw [if_pos ⟨rfl, rfl⟩, role_send]
theorem duties_recv (k : Fin 3) : (rounds m).duties (recvCell k c) 0 = {0} := by
  dsimp only [rounds]; rw [if_pos ⟨rfl, rfl⟩, role_recv]
theorem duties_later (g : GSem nD τ sig) : ∀ r, 1 ≤ r → (rounds m).duties g r = ∅ :=
  fun r hr => by dsimp only [rounds]; rw [if_neg fun h => by omega]

theorem amount_bar (d : Fin 3) : (rounds m).amount (barCell c) 0 d = 1 := by dsimp only [rounds]; rw [role_bar]
theorem amount_send (k d : Fin 3) : (rounds m).amount (sendCell k c) 0 d = N := by dsimp only [rounds]; rw [role_send]
theorem amount_recv (k d : Fin 3) : (rounds m).amount (recvCell k c) 0 d = N := by dsimp only [rounds]; rw [role_recv]

theorem expect_bar : (rounds m).expect (barCell c) 0 = 3 := by
  unfold Schedule.expect Schedule.amountOf
  rw [duties_bar, Finset.sum_congr rfl fun d _ => amount_bar m c d]; rfl
theorem expect_send (k : Fin 3) : (rounds m).expect (sendCell k c) 0 = N := by
  unfold Schedule.expect Schedule.amountOf; rw [duties_send, Finset.sum_singleton, amount_send]
theorem expect_recv (k : Fin 3) : (rounds m).expect (recvCell k c) 0 = N := by
  unfold Schedule.expect Schedule.amountOf; rw [duties_recv, Finset.sum_singleton, amount_recv]

theorem payload_bar (d : Fin 3) : (rounds m).payload (barCell c) 0 d = barPay c d := by dsimp only [rounds]; rw [role_bar]
theorem payload_send (k d : Fin 3) : (rounds m).payload (sendCell k c) 0 d = sendPay m c k := by dsimp only [rounds]; rw [role_send]
theorem payload_recv (k d : Fin 3) : (rounds m).payload (recvCell k c) 0 d = recvPay m c k := by dsimp only [rounds]; rw [role_recv]

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- What a wait for the whole round takes: the three slots at the barrier, the landed slot, the lent third. -/
theorem rest_bar : bigSep ((rounds m).duties (barCell c) 0 \ ∅) (fun d => (rounds m).payload (barCell c) 0 d)
    = iprop(barPay c 0 ∗ barPay c 1 ∗ barPay c 2) := by
  rw [Finset.sdiff_empty, duties_bar, bigSep_three, payload_bar, payload_bar, payload_bar]
theorem rest_send (k : Fin 3) : bigSep ((rounds m).duties (sendCell k c) 0 \ ∅) (fun d => (rounds m).payload (sendCell k c) 0 d) = sendPay m c k := by
  rw [Finset.sdiff_empty, duties_send, bigSep_singleton, payload_send]
theorem rest_recv (k : Fin 3) : bigSep ((rounds m).duties (recvCell k c) 0 \ ∅) (fun d => (rounds m).payload (recvCell k c) 0 d) = recvPay m c k := by
  rw [Finset.sdiff_empty, duties_recv, bigSep_singleton, payload_recv]

end Sched

/-! ## What each device owes, and the order of the waits -/

/-- The credit of copy `k` of device `c`, and its unit for the barrier of the same peer. -/
abbrev oweRecv (k : Fin 3) (c : Dev nD) : CellTallies nD τ sig Unit := tallyAt (recvCell k (fwd k c)) () N
abbrev oweBar (k : Fin 3) (c : Dev nD) : CellTallies nD τ sig Unit := tallyAt (barCell (fwd k c)) () 1

/-- What is owed once the signals are sent, and at the start: the first signal and the first copy come off the right. -/
def owedCopies (c : Dev nD) : CellTallies nD τ sig Unit := 0 + oweRecv 2 c + oweRecv 1 c + oweRecv 0 c
def O₀ (c : Dev nD) : CellTallies nD τ sig Unit := owedCopies c + oweBar 2 c + oweBar 1 c + oweBar 0 c

def L (g : GSem nD τ sig) : Finset Unit := if g.1.2 = .tc then {()} else ∅
/-- Barrier cells at 1, receive cells at 2, all others at 0. -/
def lv (g : GSem nD τ sig) (_ : Unit) : ℕ := match role g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by dsimp only [lv]; rw [role_bar]
theorem lv_recv (k : Fin 3) (c : Dev nD) (u : Unit) : lv (recvCell k c) u = 2 := by dsimp only [lv]; rw [role_recv]

theorem tally_pos {g g' : GSem nD τ sig} {u : Unit} {n : ℕ} (h : 0 < (tallyAt g' () n : CellTallies nD τ sig Unit) g u) : g = g' := by
  rw [tallyAt_apply] at h
  by_contra hn
  rw [if_neg fun h' => hn h'.1] at h
  exact Nat.lt_irrefl 0 h

/-- The copies owe receive cells only; -/
theorem owedCopies_pos {c : Dev nD} {g : GSem nD τ sig} {u : Unit} (h : 0 < owedCopies c g u) : ∃ k, g = recvCell k (fwd k c) := by
  unfold owedCopies at h
  rw [zero_add] at h
  simp only [Pi.add_apply, Finsupp.add_apply] at h
  rcases Nat.add_pos_iff_pos_or_pos.mp h with h | h
  · rcases Nat.add_pos_iff_pos_or_pos.mp h with h | h
    exacts [⟨2, tally_pos h⟩, ⟨1, tally_pos h⟩]
  · exact ⟨0, tally_pos h⟩

/-- and at the start a device owes receive and barrier cells. -/
theorem O₀_pos {c : Dev nD} {g : GSem nD τ sig} {u : Unit} (h : 0 < O₀ c g u) :
    (∃ k, g = recvCell k (fwd k c)) ∨ ∃ k, g = barCell (fwd k c) := by
  unfold O₀ at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · rcases Nat.add_pos_iff_pos_or_pos.mp h with h | h
      exacts [.inl (owedCopies_pos h), .inr ⟨2, tally_pos h⟩]
    · exact .inr ⟨1, tally_pos h⟩
  · exact .inr ⟨0, tally_pos h⟩

omit [FloatOps F] in
/-- A staging semaphore may be waited on under everything a device owes. -/
theorem mayWait_stage (c : Dev nD) (q : DmaSem sig) (hq : role (.dma q) = .other) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by rw [Finset.mem_singleton.mp hp]; dsimp only [lv]; rw [hq])
      (fun g u hg => by
        rcases O₀_pos hg with ⟨k, rfl⟩ | ⟨k, rfl⟩
        · rw [lv_recv]; decide
        · rw [lv_bar]; decide)
  · rw [MayWait_zero]; iintro -; iempintro

omit [FloatOps F] in
/-- The barrier may be waited on under the three copies' credits. -/
theorem mayWait_bar (c : Dev nD) : (levAts L lv : sProp 𝕄) ⊢ MayWait (c : Thread nD τ) (.reg barS) () (owedCopies c) :=
  MayOwe.of_cut (L := L) (lev := lv) 1 (fun p hp => by rw [Finset.mem_singleton.mp hp, L_tc]; exact Finset.mem_singleton_self _)
    (fun g u hg => by obtain ⟨k, rfl⟩ := owedCopies_pos hg; rw [L_tc]; exact Finset.mem_singleton_self _)
    (fun p hp => by rw [Finset.mem_singleton.mp hp]; exact (lv_bar c _).le)
    (fun g u hg => by obtain ⟨k, rfl⟩ := owedCopies_pos hg; rw [lv_recv]; decide)

end Cert.Exchange

end
-- ==== Proof.Start.lean ====
/-
What device `c`'s kernel body starts from and leaves: the records of every cell, its own positions and the tokens of the
duties it pays, its credits, and the exchange buffer; afterwards the buffer, and its seven counters at zero.
-/
module

public import proofs.«01_k».proof.Proof.Cells

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Every cell's invariant, under the names `K`, and that every cell has reached round 0. -/
def records (K : Dev nD × Fin 7 → ℕ) : sProp 𝕄 :=
  iprop((bigSep Finset.univ fun ck : Dev nD × Fin 7 => cellInv ER (rounds m) (K ck) (kcell ck))
    ∗ bigSep Finset.univ fun ck : Dev nD × Fin 7 => reached ER (kcell ck) 0)

instance records_persistent (K : Dev nD × Fin 7 → ℕ) : BI.Persistent (records m K) := by unfold records; infer_instance

omit [FloatOps F] in
theorem of_all (Φ : Dev nD × Fin 7 → sProp 𝕄) (ck : Dev nD × Fin 7) : bigSep Finset.univ Φ ⊢ Φ ck := bigSep_elim (Finset.mem_univ ck)
theorem record_inv (K : Dev nD × Fin 7 → ℕ) (ck : Dev nD × Fin 7) : records m K ⊢ cellInv ER (rounds m) (K ck) (kcell ck) := by
  unfold records; iintro ⟨H, -⟩; iapply (of_all (F := F) fun ck => cellInv ER (rounds m) (K ck) (kcell ck)); iexact H
theorem record_reached (K : Dev nD × Fin 7 → ℕ) (ck : Dev nD × Fin 7) : records m K ⊢ reached ER (kcell ck) 0 := by
  unfold records; iintro ⟨-, H⟩; iapply (of_all (F := F) fun ck => reached ER (kcell ck) 0); iexact H

/-- Where the send and receive cell of copy `k` stand among the seven. -/
abbrev sendIx (k : Fin 3) : Fin 7 := ⟨k.val + 1, by omega⟩
abbrev recvIx (k : Fin 3) : Fin 7 := ⟨k.val + 4, by omega⟩
theorem kcell_send (c : Dev nD) (k : Fin 3) : kcell (c, sendIx k) = sendCell k c := by fin_cases k <;> rfl
theorem kcell_recv (c : Dev nD) (k : Fin 3) : kcell (c, recvIx k) = recvCell k c := by fin_cases k <;> rfl

theorem inv_bar (K : Dev nD × Fin 7 → ℕ) (c : Dev nD) : records m K ⊢ cellInv ER (rounds m) (K (c, 0)) (barCell c) := record_inv m K (c, 0)
theorem inv_send (K : Dev nD × Fin 7 → ℕ) (c : Dev nD) (k : Fin 3) : records m K ⊢ cellInv ER (rounds m) (K (c, sendIx k)) (sendCell k c) := by
  rw [← kcell_send]; exact record_inv m K (c, sendIx k)
theorem inv_recv (K : Dev nD × Fin 7 → ℕ) (c : Dev nD) (k : Fin 3) : records m K ⊢ cellInv ER (rounds m) (K (c, recvIx k)) (recvCell k c) := by
  rw [← kcell_recv]; exact record_inv m K (c, recvIx k)
theorem reached_bar (K : Dev nD × Fin 7 → ℕ) (c : Dev nD) : records m K ⊢ reached ER (barCell c) 0 := record_reached m K (c, 0)
theorem reached_send (K : Dev nD × Fin 7 → ℕ) (c : Dev nD) (k : Fin 3) : records m K ⊢ reached ER (sendCell k c) 0 := by
  rw [← kcell_send]; exact record_reached m K (c, sendIx k)
theorem reached_recv (K : Dev nD × Fin 7 → ℕ) (c : Dev nD) (k : Fin 3) : records m K ⊢ reached ER (recvCell k c) 0 := by
  rw [← kcell_recv]; exact record_reached m K (c, recvIx k)

/-- The tokens of the duties device `c` pays with copy `k`: its peer's barrier duty, its peer's receive duty, its own send duty. -/
def payTok (k : Fin 3) (c : Dev nD) : sProp 𝕄 :=
  iprop(dutyTok ER (barCell (fwd k c)) 0 k.rev ∗ dutyTok ER (recvCell k (fwd k c)) 0 0 ∗ dutyTok ER (sendCell k c) 0 0)
/-- Its positions at its send and receive cell of copy `k`. -/
def copyPos (k : Fin 3) (c : Dev nD) : sProp 𝕄 := iprop(atPos ER (sendCell k c) 0 ∅ 0 ∗ atPos ER (recvCell k c) 0 ∅ 0)
/-- What only device `c` holds of the exchange's ghost state. -/
def mine (c : Dev nD) : sProp 𝕄 :=
  iprop((atPos ER (barCell c) 0 ∅ 0 ∗ copyPos 0 c ∗ copyPos 1 c ∗ copyPos 2 c) ∗ payTok 0 c ∗ payTok 1 c ∗ payTok 2 c)

/-- The credits of its own waits at its barrier and its receive cells. -/
def credits (c : Dev nD) : sProp 𝕄 :=
  iprop(cred (tallyAt (barCell c) () 3) ∗ cred (tallyAt (recvCell 0 c) () N) ∗ cred (tallyAt (recvCell 1 c) () N) ∗ cred (tallyAt (recvCell 2 c) () N))

def start (c : Dev nD) : sProp 𝕄 := iprop((∃ K, records m K ∗ mine c) ∗ credits c ∗ levAts L lv)

/-- The exchange buffer at some contents. -/
def anyBuf (c : Dev nD) : sProp 𝕄 := iprop(∃ f : Buf (Elt F) ((c : Thread nD τ).loc cc0_scratch0), ((c : Thread nD τ).loc cc0_scratch0) ↦{fullShare} f)
omit [FloatOps F] in
/-- The buffer is its four slots, and back. -/
theorem buf_split (c : Dev nD) : (anyBuf c : sProp 𝕄) ⊢ iprop(anySlot c 0 ∗ anySlot c 1 ∗ anySlot c 2 ∗ anySlot c 3) := by
  unfold anyBuf anySlot
  simp only [slotPts_eq]
  iintro ⟨%f, H⟩
  ihave H' := (Entails.of_eq ((Ring.pointsTo_blocks (fun j : Fin 4 => (slotRect j).set) slot_disjoint slot_cover f).trans (bigSep_four _))) $$ H
  icases H' with ⟨H0, H1, H2, H3⟩
  isplitl [H0]; · iexists f; iexact H0
  isplitl [H1]; · iexists f; iexact H1
  isplitl [H2]; · iexists f; iexact H2
  iexists f; iexact H3
omit [FloatOps F] in
theorem buf_join (c : Dev nD) (f₀ : Buf (Elt F) ((c : Thread nD τ).loc cc0_scratch0)) :
    iprop(anySlot c 0 ∗ anySlot c 1 ∗ anySlot c 2 ∗ anySlot c 3) ⊢ (anyBuf c : sProp 𝕄) := by
  unfold anyBuf anySlot
  simp only [slotPts_eq]
  iintro H
  iapply (Ring.pointsTo_blocks_join_exists (fun j : Fin 4 => (slotRect j).set) slot_disjoint slot_cover f₀)
  iapply (Entails.of_eq (bigSep_four (F := F) (fun j => iprop(∃ f : Buf (Elt F) ((c : Thread nD τ).loc cc0_scratch0), ((c : Thread nD τ).loc cc0_scratch0) ↦[(slotRect j).set]{fullShare} f))).symm)
  iexact H

def Φ₀ (c : Dev nD) : sProp 𝕄 := iprop(start m c ∗ anyBuf c)
/-- The counters of the six scoped semaphores, and the barrier's. -/
def zeros (c : Dev nD) : sProp 𝕄 :=
  iprop(semVal (sendCell 0 c) 0 ∗ semVal (sendCell 1 c) 0 ∗ semVal (sendCell 2 c) 0
    ∗ semVal (recvCell 0 c) 0 ∗ semVal (recvCell 1 c) 0 ∗ semVal (recvCell 2 c) 0)
def Φ₁ (c : Dev nD) : sProp 𝕄 := iprop(anyBuf c ∗ zeros c ∗ semVal (barCell c) 0)

/-- What device `c` stores: its own partial sums and then, in turn, those of the devices one, two and three before it. -/
def outAt (c : Dev nD) : FVec F S2x1024 .f32 :=
  k0_pay4 (k0_pay3 (part m c) (k0_pay2 (part m (fwd 2 c))) (k0_pay2 (part m (fwd 1 c)))) (k0_pay2 (part m (fwd 0 c)))

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => ystg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.Exchange

end
-- ==== Proof.Steps.lean ====
/-
One step of the exchange at a time, for copy `k` at large: the signal to a peer's barrier, the wait on the own barrier, the
copy to a peer, the two waits of a copy (each closing its cell, so that its counter is the device's again), and the load
and the store of a slot.
-/
module

public import proofs.«01_k».proof.Proof.Start

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 7 → ℕ) (k : Fin 3) (c : Dev nD)

/-- The signal to the `k`-th peer's barrier hands it the slot the peer's copy back to `c` lands in. -/
theorem signal_step {α : Type} {Q : α → sProp 𝕄} {kk : PUnit → Prog (TpuEff nD τ sig (Elt F) Λ₀ .tc) α} (n : Dev nD) (hn : n = fwd k c) {u : ℕ} (hu : u = 1) (O : CellTallies nD τ sig Unit) (W : Waits sig Unit) :
    iprop(records m K ∗ owes (c : Thread nD τ) (O + oweBar k c) W ∗ dutyTok ER (barCell (fwd k c)) 0 k.rev ∗ anySlot c k.rev.succ)
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n, .tc) barS u) kk) Q) := by
  subst hn hu
  iintro ⟨#HR, HO, Ht, Hs⟩
  iapply (Rounds.wp_signal 𝒱₀ ER (rounds m) (c : Thread nD τ) none (dst := (fwd k c : Thread nD τ)) (κ := K (fwd k c, 0))
      (d := k.rev) (by rw [duties_bar]; exact Finset.mem_univ _) (amount_bar m (fwd k c) k.rev) () O rfl)
  isplitr; · iapply (inv_bar m K (fwd k c)); iexact HR
  isplitl [HO]; · iexact HO
  isplitl [Ht]; · iexact Ht
  isplitl [Hs]
  · rw [payload_bar]; unfold barPay; rw [fwd_rev_fwd]
    isplitl [Hs]; · iexact Hs
    iapply (reached_recv m K c k.rev); iexact HR
  · iapply (reached_bar m K (fwd k c)); iexact HR

/-- The wait for the three others' signals brings the slots its three copies land in. -/
theorem barrier_step {α : Type} {Q : α → sProp 𝕄} {kk : PUnit → Prog (TpuEff nD τ sig (Elt F) Λ₀ .tc) α} {u : ℕ} (hu : u = 3) (W : Waits sig Unit) :
    iprop(records m K ∗ levAts L lv ∗ cred (tallyAt (barCell c) () 3) ∗ owes (c : Thread nD τ) (owedCopies c) W ∗ atPos ER (barCell c) 0 ∅ 0)
      ⊢ iprop(((owes (c : Thread nD τ) (owedCopies c) (insert (SemLoc.reg barS, ()) W) ∗ semVal (barCell c) 0
              ∗ anySlot (fwd 0 c) 1 ∗ anySlot (fwd 1 c) 2 ∗ anySlot (fwd 2 c) 3)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS u) kk) Q) := by
  subst hu
  iintro ⟨#HR, #Hlev, Hc, HO, Hat⟩ Hk
  iapply (Rounds.wp_wait_rest_token 𝒱₀ ER (rounds m) (c : Thread nD τ) none (κ := K (c, 0))
      (wpE_semWait_eq 𝒱₀ (c : Thread nD τ) none Set.univ) (Set.mem_univ _) () (O := owedCopies c) (W := W) (R := 0) (m := 0) (T := ∅)
      (by rw [expect_bar])) $$ [Hc HO Hat]
  · isplitr; · iapply (inv_bar m K c); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  unfold barPay
  icases Hp with ⟨⟨H0, -⟩, ⟨H1, -⟩, H2, -⟩
  imod (Rounds.cell_close ER (rounds m) (Set.mem_univ (K (c, 0))) (fun h => h) (R := 0 + 1) (duties_later m (barCell c))) $$ [Hat] with Hz
  · isplitr; · iapply (inv_bar m K c); iexact HR
    iexact Hat
  iapply Hk
  isplitl [HO]; · iexact HO
  isplitl [Hz]; · iexact Hz
  isplitl [H0]; · iexact H0
  isplitl [H1]; · iexact H1
  iexact H2

/-- Copy `k`'s block landed in slot `k + 1` of the peer is what its receive cell is to hold. -/
theorem landed_pay (f : Buf (Elt F) ((slotM k.succ).view.loc (fwd k c : Thread nD τ))) :
    ((slotM k.succ).view.loc (fwd k c : Thread nD τ) ↦[(slotM k.succ).view.set]{fullShare}
        ((slotM k.succ).view.write (Elt F) f ((slotM 0).view.read (Elt F) (fill (part m c))) Finset.univ) : sProp 𝕄)
      ⊢ (rounds m).payload (recvCell k (fwd k c)) 0 0 := by
  rw [payload_recv]; unfold recvPay slotPts; rw [fwd_rev_fwd]
  refine Entails.of_eq (pointsTo_congr fun i hi => ?_)
  rw [read_fill 0 (part m c)]
  exact land_fill k.succ (part m c) f i hi

/-- Every slot's block is of the same credit. -/
theorem slot_credit : (slotM k.succ : Memref sig .tc .vmem S2x1024 .f32).view.amount (.dma (recvS k)) = N := rfl

/-- Copy `k`: a third of the own slot goes out, slot `k + 1` of the peer comes to hold the same block. -/
theorem copy_step {α : Type} {Q : α → sProp 𝕄} {kk : PUnit → Prog (TpuEff nD τ sig (Elt F) Λ₀ .tc) α} (n : Dev nD) (hn : n = fwd k c) {hsc : (slotM k.succ : Memref sig (Dev.tc n : Thread nD τ).2.kind .vmem S2x1024 .f32).view.ref.isScScratch = false}
    {hsrc : (slotM 0).view.WordExact} {hdst : (slotM k.succ).view.WordExact}
    {hsem : DmaTarget.Typed .vmem (.dma (recvS k)) (.remote (Dev.tc n : Thread nD τ) (slotM k.succ) (.dma (sendS k)) hsc)}
    (fd : Buf (Elt F) ((slotM k.succ).view.loc (fwd k c : Thread nD τ))) (O : CellTallies nD τ sig Unit) (W : Waits sig Unit) :
    iprop(cellInv ER (rounds m) (K (c, sendIx k)) (sendCell k c) ∗ cellInv ER (rounds m) (K (fwd k c, recvIx k)) (recvCell k (fwd k c))
        ∗ slotPts c 0 (Ring.shares3 fullShare k) (fill (part m c)) ∗ slotPts (fwd k c) k.succ fullShare fd
        ∗ owes (c : Thread nD τ) (O + oweRecv k c) W
        ∗ dutyTok ER (sendCell k c) 0 0 ∗ reached ER (sendCell k c) 0
        ∗ dutyTok ER (recvCell k (fwd k c)) 0 0 ∗ reached ER (recvCell k (fwd k c)) 0)
      ⊢ iprop(((cred (tallyAt (sendCell k c) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM 0) (.remote (Dev.tc n : Thread nD τ) (slotM k.succ) (.dma (sendS k)) hsc) (.dma (recvS k)) hsrc hdst hsem) kk) Q) := by
  subst hn
  unfold slotPts
  exact Rounds.wp_send_pointsTo (defs := defs₀ (F := F)) 𝒱₀ ER (rounds m) (c : Thread nD τ) none (c' := (fwd k c : Thread nD τ)) (src := slotM 0) (dst := slotM k.succ) (sS := .dma (sendS k)) (sem := .dma (recvS k))
    (hsc := hsc) (hsrc := hsrc) (hdst := hdst) (hsem := hsem) (k := kk) (Q := Q) (Es := Set.univ) (κ₁ := K (c, sendIx k)) (κ₂ := K (fwd k c, recvIx k))
    (r₁ := 0) (r₂ := 0) (d₁ := 0) (d₂ := 0) (fs := fill (part m c)) (fd := fd) (q := Ring.shares3 fullShare k)
    (by rw [duties_send]; exact Finset.mem_singleton_self _) (by rw [duties_recv]; exact Finset.mem_singleton_self _) () () N (slot_credit k) (amount_send m c k 0) (amount_recv m (fwd k c) k 0) O rfl (W := W) (by rw [payload_send]; exact BI.Entails.refl _) (landed_pay m k c fd) (hr := Topo.routes_tc _ _)

/-- `copy_step` from the records, the peer's slot at some contents. -/
theorem send_step {α : Type} {Q : α → sProp 𝕄} {kk : PUnit → Prog (TpuEff nD τ sig (Elt F) Λ₀ .tc) α} (n : Dev nD) (hn : n = fwd k c)
    {hsc : (slotM k.succ : Memref sig (Dev.tc n : Thread nD τ).2.kind .vmem S2x1024 .f32).view.ref.isScScratch = false}
    {hsrc : (slotM 0).view.WordExact} {hdst : (slotM k.succ).view.WordExact}
    {hsem : DmaTarget.Typed .vmem (.dma (recvS k)) (.remote (Dev.tc n : Thread nD τ) (slotM k.succ) (.dma (sendS k)) hsc)}
    (O : CellTallies nD τ sig Unit) (W : Waits sig Unit) :
    iprop(records m K ∗ slotPts c 0 (Ring.shares3 fullShare k) (fill (part m c)) ∗ anySlot (fwd k c) k.succ
        ∗ owes (c : Thread nD τ) (O + oweRecv k c) W ∗ dutyTok ER (recvCell k (fwd k c)) 0 0 ∗ dutyTok ER (sendCell k c) 0 0)
      ⊢ iprop(((cred (tallyAt (sendCell k c) () N) ∗ owes (c : Thread nD τ) O W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slotM 0) (.remote (Dev.tc n : Thread nD τ) (slotM k.succ) (.dma (sendS k)) hsc) (.dma (recvS k)) hsrc hdst hsem) kk) Q) := by
  unfold anySlot
  iintro ⟨#HR, Hsrc, ⟨%fd, Hdst⟩, HO, Htr, Hts⟩
  iapply (copy_step m K k c n hn fd O W)
  isplitr; · iapply (inv_send m K c k); iexact HR
  isplitr; · iapply (inv_recv m K (fwd k c) k); iexact HR
  isplitl [Hsrc]; · iexact Hsrc
  isplitl [Hdst]; · iexact Hdst
  isplitl [HO]; · iexact HO
  isplitl [Hts]; · iexact Hts
  isplitr; · iapply (reached_send m K c k); iexact HR
  isplitl [Htr]; · iexact Htr
  iapply (reached_recv m K (fwd k c) k); iexact HR

/-- The wait for the copy from the device `k + 1` before: slot `k + 1` with that device's partial sums, the counter at zero. -/
theorem recv_step {α : Type} {Q : α → sProp 𝕄} {kk : PUnit → Prog (TpuEff nD τ sig (Elt F) Λ₀ .tc) α} {sp sp' : Space} {s s' : Shape} {e e' : EltTy} {src : Memref sig .tc sp' s' e'} {dst : Memref sig .tc sp s e}
    {hsrc : src.view.WordExact} {hdst : dst.view.WordExact} (hN : dst.view.dmaCredit = N) (W : Waits sig Unit) :
    iprop(records m K ∗ cred (tallyAt (recvCell k c) () N) ∗ owes (c : Thread nD τ) 0 W ∗ atPos ER (recvCell k c) 0 ∅ 0)
      ⊢ iprop(((owes (c : Thread nD τ) 0 (insert (SemLoc.dma (recvS k), ()) W) ∗ semVal (recvCell k c) 0
              ∗ slotPts c k.succ fullShare (fill (part m (fwd k.rev c))))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (recvS k) src dst hsrc hdst) kk) Q) := by
  iintro ⟨#HR, Hc, HO, Hat⟩ Hk
  iapply (Rounds.wp_wait_rest_token 𝒱₀ ER (rounds m) (c : Thread nD τ) none (κ := K (c, recvIx k))
      (wpE_waitDma2_eq 𝒱₀ (c : Thread nD τ) none Set.univ) (Set.mem_univ _) () (O := 0) (W := W) (R := 0) (m := 0) (T := ∅)
      (by rw [Nat.zero_add, expect_recv, hN])) $$ [Hc HO Hat]
  · isplitr; · iapply (inv_recv m K c k); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_recv m c k)) $$ Hpay
  unfold recvPay
  imod (Rounds.cell_close ER (rounds m) (Set.mem_univ (K (c, recvIx k))) (fun h => h) (R := 0 + 1) (duties_later m (recvCell k c))) $$ [Hat] with Hz
  · isplitr; · iapply (inv_recv m K c k); iexact HR
    iexact Hat
  iapply Hk
  isplitl [HO]; · iexact HO
  isplitl [Hz]; · iexact Hz
  iexact Hp

/-- The wait for copy `k` to have left: its third of the own slot back, the counter at zero. -/
theorem sent_step {α : Type} {Q : α → sProp 𝕄} {kk : PUnit → Prog (TpuEff nD τ sig (Elt F) Λ₀ .tc) α} {sp sp' : Space} {s s' : Shape} {e e' : EltTy} {src : Memref sig .tc sp' s' e'} {dst : Memref sig .tc sp s e}
    {hsrc : src.view.WordExact} {hdst : dst.view.WordExact} (hN : dst.view.dmaCredit = N) (W : Waits sig Unit) :
    iprop(records m K ∗ cred (tallyAt (sendCell k c) () N) ∗ owes (c : Thread nD τ) 0 W ∗ atPos ER (sendCell k c) 0 ∅ 0)
      ⊢ iprop(((owes (c : Thread nD τ) 0 (insert (SemLoc.dma (sendS k), ()) W) ∗ semVal (sendCell k c) 0
              ∗ slotPts c 0 (Ring.shares3 fullShare k) (fill (part m c)))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sendS k) src dst hsrc hdst) kk) Q) := by
  iintro ⟨#HR, Hc, HO, Hat⟩ Hk
  iapply (Rounds.wp_wait_rest_token 𝒱₀ ER (rounds m) (c : Thread nD τ) none (κ := K (c, sendIx k))
      (wpE_waitDma2_eq 𝒱₀ (c : Thread nD τ) none Set.univ) (Set.mem_univ _) () (O := 0) (W := W) (R := 0) (m := 0) (T := ∅)
      (by rw [Nat.zero_add, expect_send, hN])) $$ [Hc HO Hat]
  · isplitr; · iapply (inv_send m K c k); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_send m c k)) $$ Hpay
  unfold sendPay
  imod (Rounds.cell_close ER (rounds m) (Set.mem_univ (K (c, sendIx k))) (fun h => h) (R := 0 + 1) (duties_later m (sendCell k c))) $$ [Hat] with Hz
  · isplitr; · iapply (inv_send m K c k); iexact HR
    iexact Hat
  iapply Hk
  isplitl [HO]; · iexact HO
  isplitl [Hz]; · iexact Hz
  iexact Hp

/-- Loading a slot, at any contents. -/
theorem load_step {α : Type} {Q : α → sProp 𝕄} (j : Fin 4) (f : Buf (Elt F) ((c : Thread nD τ).loc cc0_scratch0)) {hl : commM.view.LoadsAt (slotRect j).toLoadRect}
    {kl : ((slotRect j).toLoadRect.shape.Idx → Elt F .f32) → Prog (TpuEff nD τ sig (Elt F) Λ₀ .tc) α} :
    slotPts c j fullShare f
      ⊢ iprop((slotPts c j fullShare f
            -∗ wp frame (wpE (defs₀ (F := F)) 𝒱₀ (c : Thread nD τ) none) Set.univ (kl (commM.view.readAt (Elt F) (slotRect j).toLoadRect f)) Q)
          -∗ wp frame (wpE (defs₀ (F := F)) 𝒱₀ (c : Thread nD τ) none) Set.univ (.op (.load commM (slotRect j).toLoadRect hl) kl) Q) := by
  rw [slotPts_eq]
  exact wp_load 𝒱₀ (c : Thread nD τ) none Set.univ (m := commM) (r := (slotRect j).toLoadRect) (by
    intro i hi
    obtain ⟨x, hx, rfl⟩ := Finset.mem_map.mp hi
    exact hx)

/-- Storing the block `p` in the own slot. -/
theorem store_step {α : Type} {Q : α → sProp 𝕄} {kk : PUnit → Prog (TpuEff nD τ sig (Elt F) Λ₀ .tc) α} (p : FVec F S2x1024 .f32) (f : Buf (Elt F) ((c : Thread nD τ).loc cc0_scratch0))
    {hx : (commM.access (slotRect 0)).Stores Finset.univ} {hm : (Finset.univ : Finset (slotRect 0).shape.Idx) = Finset.univ ∨ ∀ a, (slotRect 0).stride a = 1} :
    slotPts c 0 fullShare f
      ⊢ iprop((slotPts c 0 fullShare (fill p) -∗ wp frame (wpE (defs₀ (F := F)) 𝒱₀ (c : Thread nD τ) none) Set.univ (kk ⟨⟩) Q)
          -∗ wp frame (wpE (defs₀ (F := F)) 𝒱₀ (c : Thread nD τ) none) Set.univ
              (.op (.store commM (slotRect 0) (k0_pay2 p) Finset.univ hx hm) kk) Q) := by
  rw [slotPts_eq, slotPts_eq]
  have h : (((c : Thread nD τ).loc cc0_scratch0) ↦[(slotRect 0).set]{fullShare} fill p : sProp 𝕄)
      = (((c : Thread nD τ).loc cc0_scratch0) ↦[(slotRect 0).set]{fullShare} (commM.access (slotRect 0)).write (Elt F) f (k0_pay2 p) Finset.univ) :=
    (pointsTo_congr (store_fill 0 p f)).symm
  rw [h]
  exact wp_store 𝒱₀ (c : Thread nD τ) none Set.univ (m := commM) (r := slotRect 0) (Mk := Finset.univ) (by
    rw [View.setOn_univ]; exact (View.set_slice_whole cc0_scratch0 (slotRect 0)).le)

end Cert.Exchange

end
-- ==== Proof.Body.lean ====
/-
The body on one device: from the records, its own tokens and credits, the exchange buffer and the three staging buffers,
through every effect in program order, to the output's staging buffer holding the sum of the four devices' partial sums.
-/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 7 → ℕ) (c : Dev nD)

/-- The grid's one point. -/
abbrev pt : Fin cfg0.N := t0_0

/-- Device `c`'s buffer `b`, whole, holding `X`. -/
abbrev held (b : Ref sig .tc) (X : b.ty.Contents (Elt F)) : sProp 𝕄 := ((c : Thread nD τ).loc b) ↦{fullShare} X

omit [FloatOps F] in
theorem anySlot_eq (j : Fin 4) : (anySlot c j : sProp 𝕄) = iprop(∃ f, slotPts c j fullShare f) := rfl
omit [FloatOps F] in
theorem anySlot_of (j : Fin 4) (f : Buf (Elt F) ((c : Thread nD τ).loc cc0_scratch0)) : (slotPts c j fullShare f : sProp 𝕄) ⊢ anySlot c j := by
  rw [anySlot_eq]; iintro H; iexists f; iexact H
omit [FloatOps F] in
/-- A slot is its three thirds, and back. -/
theorem slot_thirds (j : Fin 4) (f : Buf (Elt F) ((c : Thread nD τ).loc cc0_scratch0)) :
    (slotPts c j fullShare f : sProp 𝕄) ⊣⊢ iprop(slotPts c j (Ring.shares3 fullShare 0) f ∗ slotPts c j (Ring.shares3 fullShare 1) f
      ∗ slotPts c j (Ring.shares3 fullShare 2) f) := by
  unfold slotPts; exact Ring.pointsTo_thirds fullShare f

theorem zero_offs : (![0, 0] : Fin 2 → Nat) = fun _ => 0 := by funext a; fin_cases a <;> rfl

omit [FloatOps F] in
/-- A whole staging buffer read is its contents; a whole one written is what was written. -/
theorem read_x (f : (cc0_stg0_0 : Ref sig .tc).ty.Contents (Elt F)) :
    (Memref.whole cc0_stg0_0 : Memref sig .tc .vmem S1024x1024 .f32).view.readAt (Elt F)
      (Rect.unit (s := S1024x1024) ![0, 0] S1024x1024.size inb_S1024x1024_S1024x1024_0_0).toLoadRect f = f :=
  Memref.readAt_unit_zero (Elt F) cc0_stg0_0 zero_offs _ f
omit [FloatOps F] in
theorem read_y (f : (cc0_stg1_0 : Ref sig .tc).ty.Contents (Elt F)) :
    (Memref.whole cc0_stg1_0 : Memref sig .tc .vmem S1024x1024 .f32).view.readAt (Elt F)
      (Rect.unit (s := S1024x1024) ![0, 0] S1024x1024.size inb_S1024x1024_S1024x1024_0_0).toLoadRect f = f :=
  Memref.readAt_unit_zero (Elt F) cc0_stg1_0 zero_offs _ f
omit [FloatOps F] in
theorem write_o (f w : (cc0_stg2_0 : Ref sig .tc).ty.Contents (Elt F)) :
    ((Memref.whole cc0_stg2_0 : Memref sig .tc .vmem S2x1024 .f32).access
      (Rect.unit (s := S2x1024) ![0, 0] S2x1024.size inb_S2x1024_S2x1024_0_0) : View sig .tc _ _ _).write (Elt F) f w Finset.univ = w :=
  Memref.write_access_unit_zero_univ (Elt F) cc0_stg2_0 zero_offs _ f w

/-- What the body starts from, and what it leaves. -/
def bodyPre (x y : FVec F S1024x1024 .f32) (o : FVec F S2x1024 .f32) (W : Waits sig Unit) : sProp 𝕄 :=
  iprop(records m K ∗ mine c ∗ credits c ∗ levAts L lv ∗ anyBuf c ∗ owes (c : Thread nD τ) (O₀ c) W
    ∗ held c cc0_stg0_0 x ∗ held c cc0_stg1_0 y ∗ held c cc0_stg2_0 o)
def bodyPost : sProp 𝕄 :=
  iprop(Φ₁ c ∗ (∃ W, owes (c : Thread nD τ) 0 W)
    ∗ held c cc0_stg0_0 (xstg m c) ∗ held c cc0_stg1_0 (ystg m c) ∗ held c cc0_stg2_0 (outAt m c))

set_option maxHeartbeats 1600000 in
/-- The body, run from `bodyPre` to `bodyPost`. -/
theorem sound_body (o : FVec F S2x1024 .f32) (W : Waits sig Unit) :
    bodyPre m K c (xstg m c) (ystg m c) o W
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2)
          (fun _ => bodyPost m c) := by
  rw [cc0_body_eq_skeleton]
  unfold cc0_body_skel
  simp only [k0_part1_eq_skeleton, k0_part2_eq_skeleton, k0_part3_eq_skeleton, k0_part4_eq_skeleton,
    k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold bodyPre mine credits copyPos payTok
  iintro ⟨#HR, ⟨⟨HaB, ⟨HaS0, HaR0⟩, ⟨HaS1, HaR1⟩, HaS2, HaR2⟩, ⟨HtB0, HtR0, HtS0⟩, ⟨HtB1, HtR1, HtS1⟩, HtB2, HtR2, HtS2⟩,
    ⟨HcB, HcR0, HcR1, HcR2⟩, #Hlev, Hbuf, HO, Hx, Hy, Ho⟩
  ihave Hb := (buf_split c) $$ Hbuf
  icases Hb with ⟨Hs0, Hs1, Hs2, Hs3⟩
  ihave Hs0' := (Entails.of_eq (anySlot_eq c 0)) $$ Hs0
  icases Hs0' with ⟨%f0, Hs0⟩
  unfold O₀
  iapply (signal_step m K 0 c _ (dev1_eq c) (by decide) (owedCopies c + oweBar 2 c + oweBar 1 c) W) $$ [HO HtB0 Hs3]
  · isplitr; · iexact HR
    isplitl [HO]; · iexact HO
    isplitl [HtB0]; · iexact HtB0
    iexact Hs3
  iintro HO
  iapply (signal_step m K 1 c _ (dev2_eq c) (by decide) (owedCopies c + oweBar 2 c) W) $$ [HO HtB1 Hs2]
  · isplitr; · iexact HR
    isplitl [HO]; · iexact HO
    isplitl [HtB1]; · iexact HtB1
    iexact Hs2
  iintro HO
  iapply (signal_step m K 2 c _ (dev3_eq c) (by decide) (owedCopies c) W) $$ [HO HtB2 Hs1]
  · isplitr; · iexact HR
    isplitl [HO]; · iexact HO
    isplitl [HtB2]; · iexact HtB2
    iexact Hs1
  iintro HO
  iapply (wp_load 𝒱₀ (c : Thread nD τ) none Set.univ (m := Memref.whole cc0_stg0_0) (Finset.subset_univ _)) $$ Hx; iintro Hx
  rw [read_x]
  iapply (wp_load 𝒱₀ (c : Thread nD τ) none Set.univ (m := Memref.whole cc0_stg1_0) (Finset.subset_univ _)) $$ Hy; iintro Hy
  rw [read_y]
  iapply (load_step c 0 f0) $$ Hs0; iintro Hs0
  iapply (store_step c (part m c) f0) $$ Hs0; iintro Hs0
  iapply (barrier_step m K c (by decide) W) $$ [HcB HO HaB]
  · isplitr; · iexact HR
    isplitr; · iexact Hlev
    isplitl [HcB]; · iexact HcB
    isplitl [HO]; · iexact HO
    iexact HaB
  iintro ⟨HO, HzB, Hd0, Hd1, Hd2⟩
  ihave Ht := (slot_thirds c 0 _).1 $$ Hs0
  icases Ht with ⟨Ht0, Ht1, Ht2⟩
  unfold owedCopies
  iapply (send_step m K 0 c _ (dev4_eq c) (0 + oweRecv 2 c + oweRecv 1 c) (insert (SemLoc.reg barS, ()) W)) $$ [Ht0 Hd0 HO HtR0 HtS0]
  · isplitr; · iexact HR
    isplitl [Ht0]; · iexact Ht0
    isplitl [Hd0]; · iexact Hd0
    isplitl [HO]; · iexact HO
    isplitl [HtR0]; · iexact HtR0
    iexact HtS0
  iintro ⟨HcS0, HO⟩
  iapply (send_step m K 1 c _ (dev5_eq c) (0 + oweRecv 2 c) (insert (SemLoc.reg barS, ()) W)) $$ [Ht1 Hd1 HO HtR1 HtS1]
  · isplitr; · iexact HR
    isplitl [Ht1]; · iexact Ht1
    isplitl [Hd1]; · iexact Hd1
    isplitl [HO]; · iexact HO
    isplitl [HtR1]; · iexact HtR1
    iexact HtS1
  iintro ⟨HcS1, HO⟩
  iapply (send_step m K 2 c _ (dev6_eq c) 0 (insert (SemLoc.reg barS, ()) W)) $$ [Ht2 Hd2 HO HtR2 HtS2]
  · isplitr; · iexact HR
    isplitl [Ht2]; · iexact Ht2
    isplitl [Hd2]; · iexact Hd2
    isplitl [HO]; · iexact HO
    isplitl [HtR2]; · iexact HtR2
    iexact HtS2
  iintro ⟨HcS2, HO⟩
  iapply (recv_step m K 0 c (dst := slotM 1) rfl _) $$ [HcR0 HO HaR0]
  · isplitr; · iexact HR
    isplitl [HcR0]; · iexact HcR0
    isplitl [HO]; · iexact HO
    iexact HaR0
  iintro ⟨HO, HzR0, Hp1⟩
  ihave Hq1 := (Entails.of_eq (show (slotPts c (Fin.succ 0) fullShare (fill (part m (fwd (Fin.rev 0) c))) : sProp 𝕄) = slotPts c 1 fullShare (fill (part m (fwd 2 c))) from rfl)) $$ Hp1
  iapply (load_step c 1 (fill (part m (fwd 2 c)))) $$ Hq1; iintro Hp1
  rw [load_fill]
  iapply (recv_step m K 1 c (dst := slotM 2) rfl _) $$ [HcR1 HO HaR1]
  · isplitr; · iexact HR
    isplitl [HcR1]; · iexact HcR1
    isplitl [HO]; · iexact HO
    iexact HaR1
  iintro ⟨HO, HzR1, Hp2⟩
  ihave Hq2 := (Entails.of_eq (show (slotPts c (Fin.succ 1) fullShare (fill (part m (fwd (Fin.rev 1) c))) : sProp 𝕄) = slotPts c 2 fullShare (fill (part m (fwd 1 c))) from rfl)) $$ Hp2
  iapply (load_step c 2 (fill (part m (fwd 1 c)))) $$ Hq2; iintro Hp2
  rw [load_fill]
  iapply (recv_step m K 2 c (dst := slotM 3) rfl _) $$ [HcR2 HO HaR2]
  · isplitr; · iexact HR
    isplitl [HcR2]; · iexact HcR2
    isplitl [HO]; · iexact HO
    iexact HaR2
  iintro ⟨HO, HzR2, Hp3⟩
  ihave Hq3 := (Entails.of_eq (show (slotPts c (Fin.succ 2) fullShare (fill (part m (fwd (Fin.rev 2) c))) : sProp 𝕄) = slotPts c 3 fullShare (fill (part m (fwd 0 c))) from rfl)) $$ Hp3
  iapply (load_step c 3 (fill (part m (fwd 0 c)))) $$ Hq3; iintro Hp3
  rw [load_fill]
  iapply (sent_step m K 0 c (dst := slotM 0) rfl _) $$ [HcS0 HO HaS0]
  · isplitr; · iexact HR
    isplitl [HcS0]; · iexact HcS0
    isplitl [HO]; · iexact HO
    iexact HaS0
  iintro ⟨HO, HzS0, Ht0⟩
  iapply (sent_step m K 1 c (dst := slotM 0) rfl _) $$ [HcS1 HO HaS1]
  · isplitr; · iexact HR
    isplitl [HcS1]; · iexact HcS1
    isplitl [HO]; · iexact HO
    iexact HaS1
  iintro ⟨HO, HzS1, Ht1⟩
  iapply (sent_step m K 2 c (dst := slotM 0) rfl _) $$ [HcS2 HO HaS2]
  · isplitr; · iexact HR
    isplitl [HcS2]; · iexact HcS2
    isplitl [HO]; · iexact HO
    iexact HaS2
  iintro ⟨HO, HzS2, Ht2⟩
  ihave Hs0 := (slot_thirds c 0 _).2 $$ [Ht0 Ht1 Ht2]
  · isplitl [Ht0]; · iexact Ht0
    isplitl [Ht1]; · iexact Ht1
    iexact Ht2
  iapply (wp_load 𝒱₀ (c : Thread nD τ) none Set.univ (m := Memref.whole cc0_stg2_0) (Finset.subset_univ _)) $$ Ho; iintro Ho
  iapply (wp_store 𝒱₀ (c : Thread nD τ) none Set.univ (m := Memref.whole cc0_stg2_0) (r := Rect.unit (s := S2x1024) ![0, 0] S2x1024.size inb_S2x1024_S2x1024_0_0) (Mk := Finset.univ) (Finset.subset_univ _)) $$ Ho; iintro Ho
  rw [write_o, wp_ret]; imodintro
  unfold bodyPost Φ₁ zeros
  isplitl [Hs0 Hp1 Hp2 Hp3 HzB HzS0 HzS1 HzS2 HzR0 HzR1 HzR2]
  · isplitl [Hs0 Hp1 Hp2 Hp3]
    · iapply (buf_join c (fill (part m c)))
      isplitl [Hs0]; · iapply (anySlot_of c 0 _); iexact Hs0
      isplitl [Hp1]; · iapply (anySlot_of c 1 _); iexact Hp1
      isplitl [Hp2]; · iapply (anySlot_of c 2 _); iexact Hp2
      iapply (anySlot_of c 3 _); iexact Hp3
    isplitr [HzB]
    · isplitl [HzS0]; · iexact HzS0
      isplitl [HzS1]; · iexact HzS1
      isplitl [HzS2]; · iexact HzS2
      isplitl [HzR0]; · iexact HzR0
      isplitl [HzR1]; · iexact HzR1
      iexact HzR2
    iexact HzB
  isplitl [HO]; · iexists _; iexact HO
  isplitl [Hx]; · iexact Hx
  isplitl [Hy]; · iexact Hy
  iexact Ho

theorem fetch_x : (cfg0.win (0 : Fin 3)).fetch pt = true := rfl
theorem fetch_y : (cfg0.win (1 : Fin 3)).fetch pt = true := rfl
theorem before_x (d) : (dats m 0 c).before (0 : Fin 3) pt d = xstg m c := by unfold Dat.before; rw [if_pos fetch_x]; rfl
theorem before_y (d) : (dats m 0 c).before (1 : Fin 3) pt d = ystg m c := by unfold Dat.before; rw [if_pos fetch_y]; rfl

omit [FloatOps F] in
theorem windows (Φ : Fin cfg0.W → sProp 𝕄) : bigSep Finset.univ Φ = iprop(Φ (0 : Fin 3) ∗ Φ (1 : Fin 3) ∗ Φ (2 : Fin 3)) := bigSep_W0 Φ

/-- The launch's form of what the body starts from. -/
def entry : sProp 𝕄 :=
  iprop(Φ₀ m c ∗ (dats m 0 c).owesAt () pt.castSucc
    ∗ (∃ d, held c cc0_stg0_0 ((dats m 0 c).before (0 : Fin 3) pt d))
    ∗ (∃ d, held c cc0_stg1_0 ((dats m 0 c).before (1 : Fin 3) pt d))
    ∗ (∃ d, held c cc0_stg2_0 ((dats m 0 c).before (2 : Fin 3) pt d)))
/-- The launch's form of what the body leaves. -/
def leave : sProp 𝕄 :=
  iprop(Φ₁ c ∗ (dats m 0 c).owesAt () pt.succ
    ∗ held c cc0_stg0_0 (xstg m c) ∗ held c cc0_stg1_0 (ystg m c) ∗ held c cc0_stg2_0 (outAt m c))

set_option maxRecDepth 4000 in
/-- The body obligation of the launch, on every device. -/
theorem body_obligation : BodyObligation (dats (F := F) m 0 c) (defs₀ (F := F)) 𝒱₀ () Set.univ := fun t => by
  rw [fin_N0 t, windows, windows]
  simp only [owns_whole]
  show entry m c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2)
    (fun _ => leave m c)
  have hpost : bodyPost m c ⊢ leave m c := by
    unfold bodyPost leave Dat.owesAt Pipeline.owesWithin
    rw [show (dats m 0 c).owed pt.succ = 0 from rfl]
    iintro ⟨H, ⟨%W, HO⟩, Hr⟩
    isplitl [H]; · iexact H
    isplitl [HO]
    · iexists W
      isplitr; · ipureintro; exact fun _ _ => Or.inl trivial
      iexact HO
    iexact Hr
  refine BI.Entails.trans (Q := wp frame (wpE (defs₀ (F := F)) 𝒱₀ (c : Thread nD τ) none) Set.univ _ (fun _ => bodyPost m c)) ?_ (wp_mono _ _ _ fun _ => hpost)
  show entry m c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2)
    (fun _ => bodyPost m c)
  unfold entry Φ₀ start Dat.owesAt Pipeline.owesWithin
  rw [show (dats m 0 c).owed pt.castSucc = O₀ c from rfl]
  simp only [before_x, before_y]
  iintro ⟨⟨⟨⟨%K, HR, Hm⟩, Hc, Hl⟩, Hb⟩, ⟨%W, -, HO⟩, ⟨%d0, Hx⟩, ⟨%d1, Hy⟩, ⟨%d2, Ho⟩⟩
  iapply (sound_body m K c _ W)
  unfold bodyPre
  isplitl [HR]; · iexact HR
  isplitl [Hm]; · iexact Hm
  isplitl [Hc]; · iexact Hc
  isplitl [Hl]; · iexact Hl
  isplitl [Hb]; · iexact Hb
  isplitl [HO]; · iexact HO
  isplitl [Hx]; · iexact Hx
  isplitl [Hy]; · iexact Hy
  iexact Ho

end Cert.Exchange

end
-- ==== Proof.Launch.lean ====
/-
The exchange launched on the four devices: the ghost state minted and dealt out, the credits of the waits, and the run of
@main with the contents it leaves.
-/
module

public import proofs.«01_k».proof.Proof.Body
public import Idealize.ShloMosaic.Lib.Pipeline.Quiescent

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide

theorem kcell_injective : Function.Injective (kcell : Dev nD × Fin 7 → GSem nD τ sig) := fun a b h =>
  Prod.ext (congrArg (fun g : GSem nD τ sig => g.1.1) h) (csem_injective (congrArg Prod.snd h))
def allCells : Finset (GSem nD τ sig) := Finset.univ.map ⟨kcell, kcell_injective⟩

/-- The nine duties on a device's own cells, by the cell's kind and the copy: its semaphore and the duty's number. -/
abbrev dutyKey (x : Fin 3 × Fin 3) : SemLoc sig × Fin 3 := match x.1 with
  | 0 => (.reg barS, x.2) | 1 => (.dma (sendS x.2), 0) | 2 => (.dma (recvS x.2), 0)
theorem dutyKey_injective : ∀ a b : Fin 3 × Fin 3, dutyKey a = dutyKey b → a = b := by decide +kernel
abbrev tokOf (x : Dev nD × Fin 3 × Fin 3) : GSem nD τ sig × ℕ × Fin 3 :=
  (((x.1 : Thread nD τ), (dutyKey x.2).1), 0, (dutyKey x.2).2)
theorem tokOf_injective : Function.Injective (tokOf : Dev nD × Fin 3 × Fin 3 → GSem nD τ sig × ℕ × Fin 3) := fun a b h =>
  Prod.ext (congrArg (fun x : GSem nD τ sig × ℕ × Fin 3 => x.1.1.1) h)
    (dutyKey_injective _ _ (congrArg (fun x : GSem nD τ sig × ℕ × Fin 3 => (x.1.2, x.2.2)) h))
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The tokens of the duties on device `c`'s own cells. -/
def toks (c : Dev nD) : sProp 𝕄 :=
  iprop((dutyTok ER (barCell c) 0 0 ∗ dutyTok ER (barCell c) 0 1 ∗ dutyTok ER (barCell c) 0 2)
    ∗ (dutyTok ER (sendCell 0 c) 0 0 ∗ dutyTok ER (sendCell 1 c) 0 0 ∗ dutyTok ER (sendCell 2 c) 0 0)
    ∗ (dutyTok ER (recvCell 0 c) 0 0 ∗ dutyTok ER (recvCell 1 c) 0 0 ∗ dutyTok ER (recvCell 2 c) 0 0))

/-- Device `c`'s cells at round 0, before their invariants are made; -/
def dealt (c : Dev nD) : sProp 𝕄 :=
  iprop((bigSep Finset.univ fun k : Fin 7 => roundState ER (rounds m) (kcell (c, k)) 0)
    ∗ (bigSep Finset.univ fun k : Fin 7 => iprop(atPos ER (kcell (c, k)) 0 ∅ 0 ∗ reached ER (kcell (c, k)) 0)) ∗ toks c)
/-- with their invariants; -/
def opened (c : Dev nD) : sProp 𝕄 :=
  iprop((bigSep Finset.univ fun k : Fin 7 => iprop(∃ κ : ℕ, cellInv ER (rounds m) κ (kcell (c, k))))
    ∗ (bigSep Finset.univ fun k : Fin 7 => iprop(atPos ER (kcell (c, k)) 0 ∅ 0 ∗ reached ER (kcell (c, k)) 0)) ∗ toks c)
/-- and with the tokens moved to the devices that pay. -/
def ready (c : Dev nD) : sProp 𝕄 := iprop(∃ K, records m K ∗ mine c)

omit [FloatOps F] in
theorem cells_by_device (Φ : GSem nD τ sig → sProp 𝕄) :
    bigSep allCells Φ = bigSep Finset.univ fun c : Dev nD => bigSep Finset.univ fun k : Fin 7 => Φ (kcell (c, k)) := by
  unfold allCells; rw [bigSep_map, bigSep_univ_prod]; rfl

omit [FloatOps F] in
theorem toks_by_device : bigSep allToks (fun x => (dutyTok ER x.1 x.2.1 x.2.2 : sProp 𝕄)) = bigSep Finset.univ fun c : Dev nD => toks c := by
  unfold allToks; rw [bigSep_map, bigSep_univ_prod]
  exact bigSep_congr fun c _ => by
    rw [bigSep_univ_prod, bigSep_three]
    simp only [bigSep_three]
    rfl

theorem fund : BI.own (ER (initOf allCells allToks)) ⊢ (|==> bigSep Finset.univ (dealt m) : sProp 𝕄) := by
  iintro HX
  imod (Rounds.fund ER (rounds m) allCells allToks) $$ HX with ⟨Hst, Hr, Hat, Htok⟩
  imodintro
  ihave Hst' := (Entails.of_eq (cells_by_device fun g => roundState ER (rounds m) g 0)) $$ Hst
  ihave Hat' := (Entails.of_eq (cells_by_device (F := F) fun g => atPos ER g 0 ∅ 0)) $$ Hat
  ihave Hr' := (Entails.of_eq (cells_by_device (F := F) fun g => reached ER g 0)) $$ Hr
  ihave Htok' := (Entails.of_eq (toks_by_device (F := F))) $$ Htok
  unfold dealt; simp only [bigSep_sep']
  isplitl [Hst']; · iexact Hst'
  isplitl [Hat' Hr']
  · isplitl [Hat'] <;> iassumption
  iexact Htok'

/-! ## The counters -/

omit [FloatOps F] in
/-- The six semaphores of the copies are the kernel's own; -/
theorem ownSems0_eq (c : Dev nD) :
    (Pipeline.ownSems0 (Ix := Unit) (Name := ℕ) (U := UU) (Lvl := ℕ) (Val := Elt F) (τ := τ) osem c : sProp 𝕄) = zeros c := by
  rw [Pipeline.ownSems0_eq_of_list c osem [0, 1, 2, 3, 4, 5] (by decide) (by decide)]; rfl
omit [FloatOps F] in
/-- the barrier's is the only other one. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem counters (c : Dev nD) : iprop(zeros c ∗ semVal (barCell c) 0) ⊢ (bigSep Finset.univ fun k : Fin 7 => semVal (kcell (c, k)) 0 : sProp 𝕄) := by
  rw [bigSep_seven]
  unfold zeros
  iintro ⟨HZ, HB⟩
  isplitl [HB]; · iexact HB
  iexact HZ

/-- A device's counters and round states make the invariants of its cells. -/
theorem open_cells (c : Dev nD) :
    iprop(Pipeline.ownSems0 (Ix := Unit) (Name := ℕ) (U := UU) (Lvl := ℕ) (Val := Elt F) (τ := τ) osem c ∗ unscopedSems0 c ∗ dealt m c)
      ⊢ |={Set.univ}=> opened m c := by
  rw [ownSems0_eq, unscopedSems0_eq]
  unfold dealt opened
  iintro ⟨HZ, HB, Hst, Hrest⟩
  ihave Hv := (counters (F := F) c) $$ [HZ HB]
  · isplitl [HZ] <;> iassumption
  imod (show iprop((bigSep Finset.univ fun k : Fin 7 => semVal (kcell (c, k)) 0) ∗ bigSep Finset.univ fun k : Fin 7 => roundState ER (rounds m) (kcell (c, k)) 0)
      ⊢ (|={Set.univ}=> bigSep Finset.univ fun k : Fin 7 => iprop(∃ κ : ℕ, cellInv ER (rounds m) κ (kcell (c, k))) : sProp 𝕄) from by
        rw [← bigSep_sep']
        exact (bigSep_mono fun k _ => (Rounds.body_intro ER (rounds m) (kcell (c, k))).trans inv_alloc).trans (bigSep_fupd _ _)) $$ [Hv Hst] with Hinv
  · isplitl [Hv] <;> iassumption
  imodintro
  isplitl [Hinv] <;> iassumption

/-! ## Dealing -/

omit [FloatOps F] in
/-- Every token goes to the device that pays its duty. -/
theorem deal : (bigSep Finset.univ fun c : Dev nD => (toks c : sProp 𝕄)) ⊢ bigSep Finset.univ fun c : Dev nD => iprop(payTok 0 c ∗ payTok 1 c ∗ payTok 2 c) := by
  unfold toks payTok
  simp only [bigSep_sep']
  rw [bigSep_univ_equiv (around 2) (fun c : Dev nD => (dutyTok ER (barCell c) 0 0 : sProp 𝕄)),
    bigSep_univ_equiv (around 1) (fun c : Dev nD => (dutyTok ER (barCell c) 0 1 : sProp 𝕄)),
    bigSep_univ_equiv (around 0) (fun c : Dev nD => (dutyTok ER (barCell c) 0 2 : sProp 𝕄)),
    bigSep_univ_equiv (around 0) (fun c : Dev nD => (dutyTok ER (recvCell 0 c) 0 0 : sProp 𝕄)),
    bigSep_univ_equiv (around 1) (fun c : Dev nD => (dutyTok ER (recvCell 1 c) 0 0 : sProp 𝕄)),
    bigSep_univ_equiv (around 2) (fun c : Dev nD => (dutyTok ER (recvCell 2 c) 0 0 : sProp 𝕄))]
  iintro ⟨⟨B0, B1, B2⟩, ⟨S0, S1, S2⟩, V0, V1, V2⟩
  isplitl [B2 S0 V0]
  · isplitl [B2]; · iexact B2
    isplitl [V0]; · iexact V0
    iexact S0
  isplitl [B1 S1 V1]
  · isplitl [B1]; · iexact B1
    isplitl [V1]; · iexact V1
    iexact S1
  isplitl [B0]; · iexact B0
  isplitl [V2]; · iexact V2
  iexact S2

omit [FloatOps F] in
theorem mine_intro (c : Dev nD) :
    iprop((bigSep Finset.univ fun k : Fin 7 => atPos ER (kcell (c, k)) 0 ∅ 0) ∗ payTok 0 c ∗ payTok 1 c ∗ payTok 2 c) ⊢ (mine c : sProp 𝕄) := by
  rw [bigSep_seven]
  unfold mine copyPos
  iintro ⟨⟨HB, S0, S1, S2, V0, V1, V2⟩, HT⟩
  isplitr [HT]
  · isplitl [HB]; · iexact HB
    isplitl [S0 V0]; · isplitl [S0] <;> iassumption
    isplitl [S1 V1]; · isplitl [S1] <;> iassumption
    isplitl [S2] <;> iassumption
  iexact HT

omit [FloatOps F] in
/-- A persistent resource is had at every summand. -/
theorem with_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : (bigSep Finset.univ (opened m) : sProp 𝕄) ⊢ bigSep Finset.univ (ready m) := by
  unfold opened
  rw [bigSep_sep', bigSep_sep', ← bigSep_univ_prod (fun ck : Dev nD × Fin 7 => iprop(∃ κ : ℕ, cellInv ER (rounds m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (rounds m) κ (kcell ck) : sProp 𝕄))) $$ HI
  icases HK with ⟨%K, #HI⟩
  ihave Htk := (deal (F := F)) $$ Htok
  iapply (with_each (R := records m K) (Φ := mine) fun c _ => show iprop(records m K ∗ mine c) ⊢ ready m c from by
    unfold ready; iintro ⟨Hr, Hm⟩; iexists K; isplitl [Hr] <;> iassumption)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄))
        (fun c => iprop(payTok 0 c ∗ payTok 1 c ∗ payTok 2 c))).symm).trans (bigSep_mono fun c _ => mine_intro (F := F) c))
    isplitl [Hat] <;> iassumption

/-- All devices' counters together become the shared records and each device's own part. -/
theorem glob : (bigSep Finset.univ fun c => iprop(Pipeline.ownSems0 (Ix := Unit) (Name := ℕ) (U := UU) (Lvl := ℕ) (Val := Elt F) (τ := τ) osem c
      ∗ unscopedSems0 c ∗ dealt m c) : sProp 𝕄)
    ⊢ |={Set.univ}=> bigSep Finset.univ (ready m) :=
  ((bigSep_mono fun c _ => open_cells m c).trans (bigSep_fupd _ _)).trans (BI.fupd_mono (regroup m))

/-! ## The credits -/

omit [FloatOps F] in
theorem bar_credit (k : Fin 3) (c : Dev nD) : (Pipeline.launchCred (oweBar k) c : sProp 𝕄) ⊢ cred (tallyAt (barCell c) () 1) :=
  Pipeline.launchCred_tallyAt (SemLoc.reg barS) (fwd k) (fwd k.rev) (fwd_fwd_rev k) (fwd_rev_fwd k) () 1 c
omit [FloatOps F] in
theorem recv_credit (k : Fin 3) (c : Dev nD) : (Pipeline.launchCred (oweRecv k) c : sProp 𝕄) ⊢ cred (tallyAt (recvCell k c) () N) :=
  Pipeline.launchCred_tallyAt (SemLoc.dma (recvS k)) (fwd k) (fwd k.rev) (fwd_fwd_rev k) (fwd_rev_fwd k) () N c

omit [FloatOps F] in
theorem credits_intro (c : Dev nD) : (Pipeline.launchCred O₀ c : sProp 𝕄) ⊢ credits c := by
  rw [show O₀ = fun d => ((((((fun _ => 0 : Dev nD → CellTallies nD τ sig Unit) d + oweRecv 2 d) + oweRecv 1 d) + oweRecv 0 d) + oweBar 2 d) + oweBar 1 d) + oweBar 0 d from rfl,
    Pipeline.launchCred_add, Pipeline.launchCred_add, Pipeline.launchCred_add, Pipeline.launchCred_add, Pipeline.launchCred_add, Pipeline.launchCred_add]
  unfold credits
  iintro ⟨⟨⟨⟨⟨⟨-, V2⟩, V1⟩, V0⟩, B2⟩, B1⟩, B0⟩
  ihave V2 := (recv_credit (F := F) 2 c) $$ V2
  ihave V1 := (recv_credit (F := F) 1 c) $$ V1
  ihave V0 := (recv_credit (F := F) 0 c) $$ V0
  ihave B2 := (bar_credit (F := F) 2 c) $$ B2
  ihave B1 := (bar_credit (F := F) 1 c) $$ B1
  ihave B0 := (bar_credit (F := F) 0 c) $$ B0
  isplitl [B2 B1 B0]
  · rw [show (tallyAt (barCell c) () 3 : CellTallies nD τ sig Unit) = tallyAt (barCell c) () 1 + (tallyAt (barCell c) () 1 + tallyAt (barCell c) () 1) from by
      rw [tallyAt_add, tallyAt_add]]
    iapply (cred_add _ _).2
    isplitl [B2]; · iexact B2
    iapply (cred_add _ _).2
    isplitl [B1] <;> iassumption
  isplitl [V0]; · iexact V0
  isplitl [V1] <;> iassumption

/-! ## The side conditions of the launch -/

/-- The one array no window stages, held aside. -/
def aside (c : Dev nD) : sProp 𝕄 := (((c : Thread nD τ).loc main_arg2) ↦{fullShare} m ((c : Thread nD τ).loc main_arg2))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m c)
      ⊢ |={Set.univ}=> iprop(start m c ∗ aside m c) := by
  rw [Pipeline.unscopedRestP_none, unscopedRest0_eq]
  unfold start ready aside
  iintro ⟨Ha, Hlev, Hcr, -, HG⟩
  ihave Hc := (credits_intro (F := F) c) $$ Hcr
  imodintro
  isplitr [Ha]
  · isplitl [HG]; · iexact HG
    isplitl [Hc] <;> iassumption
  iexact Ha

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ anyBuf
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ anyBuf
  iintro ⟨Hr, HZ, HB⟩
  isplitl [HB]; · iexact HB
  isplitl [HZ] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What the array of window `w` holds on device `c` after the run. -/
def finalA (c : Dev nD) (w : Fin cfg0.W) : Buf (Elt F) ((cfg0.win w).arr.view.loc (c : Thread nD τ)) := (dats m 0 c).arrAt w cfg0.N

/-- Every window's array at its final contents, and the one staged by none as before. -/
def Final : PUnit × MemSt nD τ sig (Elt F) → Prop := fun r => ∀ c : Dev nD,
  (∀ w : Fin cfg0.W, r.2.mem ((cfg0.win w).arr.view.loc (c : Thread nD τ)) = finalA m c w)
    ∧ r.2.mem ((c : Thread nD τ).loc main_arg2) = m ((c : Thread nD τ).loc main_arg2)

set_option maxRecDepth 8000 in
/-- For any float values, from any memory with zero counters, every weakly fair execution of @main on the four devices
    ends with the windows' arrays at their final contents, the third argument unchanged and every counter at zero. -/
theorem run_main : θ_run defs (onTc (τ := τ) (main (F := F))) (s₀ m ρ) (fun r => Final m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt m) (G' := ready m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := aside m)
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg2) = m ((c : Thread nD τ).loc main_arg2))
    (hY := fun c s' => by
      unfold aside
      iintro ⟨Hu, Ha, HSI⟩
      icombine HSI Ha gives %h
      ihave %h' := (tcUnscoped_read c s') $$ [Hu HSI]
      · isplitl [Hu] <;> iassumption
      imodintro
      isplitr; · ipureintro; exact ⟨h', Buf.eq_of_forall_mem_univ h⟩
      iexact HSI)
    (hQ := fun _ h hs => ⟨fun c => ⟨fun w => (h c).1 w, (h c).2.2.2⟩, sem_eq_zero hs fun c => (h c).2.2.1⟩)

/-- The two staged arguments after the run hold what they held. -/
theorem finalA_x (c : Dev nD) : finalA m c (0 : Fin 3) = m ((c : Thread nD τ).loc main_arg0) := (dats m 0 c).arrAt_in (0 : Fin 3) rfl _
theorem finalA_y (c : Dev nD) : finalA m c (1 : Fin 3) = m ((c : Thread nD τ).loc main_arg1) := (dats m 0 c).arrAt_in (1 : Fin 3) rfl _

end Cert.Exchange

end
-- ==== Proof.Norm.lean ====
/-
The mathematics of the two gradients over the extended reals, for any number of rows: each row normalised by its mean and
its variance, and the sums down the columns; cut in four blocks of rows, the sums are the blocks' sums added up.
-/
module

public import Idealize.ShloMosaic.Lib.Pointwise
public import Idealize.ShloMosaic.Lib.Layout

@[expose] public section

noncomputable section

namespace Cert.Norm

open Idealize.ShloMosaic

/-- The width of a row, and the constant added to a variance. -/
abbrev wid : EReal := Ideal.ofBits .f32 0x44800000#32
abbrev eps : EReal := Ideal.ofBits .f32 0x3727C5AC#32

theorem wid_eq : wid = ((1024 : ℝ) : EReal) := by
  simp [wid, Ideal.ofBits, Ideal.ieee, -EReal.coe_mul]; norm_num
theorem eps_pos : 0 < eps := by
  simp [eps, Ideal.ofBits, Ideal.ieee, -EReal.coe_mul]

/-- The mean of a row, its distance from the mean, its variance. -/
def mean (x : Fin 1024 → EReal) : EReal := Ideal.div (∑ k, x k) wid
def off (x : Fin 1024 → EReal) (l : Fin 1024) : EReal := x l - mean x
def var (x : Fin 1024 → EReal) : EReal := Ideal.div (∑ k, off x k * off x k) wid
/-- The normalised row. -/
def hat (x : Fin 1024 → EReal) (l : Fin 1024) : EReal := off x l * Ideal.rsqrt (var x + eps)

theorem div_wid (x : EReal) : Ideal.div x wid = x * ((1024 : ℝ) : EReal)⁻¹ := by
  rw [wid_eq]; unfold Ideal.div
  rw [if_neg (by norm_num)]

theorem square_nonneg (a : EReal) : 0 ≤ a * a := by
  induction a using EReal.rec with
  | bot => rw [EReal.bot_mul_bot]; exact le_top
  | top => rw [EReal.top_mul_top]; exact le_top
  | coe r => exact_mod_cast mul_self_nonneg r

theorem var_nonneg (x : Fin 1024 → EReal) : 0 ≤ var x := by
  unfold var
  rw [div_wid]
  refine mul_nonneg (Finset.sum_nonneg fun k _ => ?_) (EReal.inv_nonneg_of_nonneg (by norm_num))
  exact square_nonneg _

/-- One over the square root of a positive value is its reciprocal square root. -/
theorem one_div_sqrt {v : EReal} (h : 0 < v) : Ideal.div 1 (Ideal.sqrt v) = Ideal.rsqrt v := by
  induction v using EReal.rec with
  | bot => exact absurd h (by simp)
  | top => simp [Ideal.div]
  | coe r =>
    have hr : 0 < r := by exact_mod_cast h
    rw [Ideal.sqrt_coe, Ideal.rsqrt_coe, if_neg hr.le.not_gt, if_neg hr.le.not_gt, if_neg hr.ne']
    unfold Ideal.div
    rw [if_neg (by exact_mod_cast (Real.sqrt_pos.mpr hr).ne'), one_mul, EReal.coe_inv]

theorem root_eq (x : Fin 1024 → EReal) : Ideal.div 1 (Ideal.sqrt (var x + eps)) = Ideal.rsqrt (var x + eps) :=
  one_div_sqrt (lt_of_lt_of_le eps_pos (le_add_of_nonneg_left (var_nonneg x)))

variable {n : ℕ}

/-- Row `r` of a matrix. -/
def row (x : (⟨2, ![n, 1024]⟩ : Shape).Idx → EReal) (r : Fin n) (l : Fin 1024) : EReal := x (ix2 r l)

/-- The gradient of the scale and of the shift, over the rows of a matrix. -/
def scaleGrad (x y : (⟨2, ![n, 1024]⟩ : Shape).Idx → EReal) (l : Fin 1024) : EReal := ∑ r : Fin n, row y r l * hat (row x r) l
def shiftGrad (y : (⟨2, ![n, 1024]⟩ : Shape).Idx → EReal) (l : Fin 1024) : EReal := ∑ r : Fin n, row y r l

/-! ## The four blocks -/

/-- Block `c` of four of a matrix of 4096 rows. -/
abbrev blk (x : (⟨2, ![4096, 1024]⟩ : Shape).Idx → EReal) (c : Fin 4) : (⟨2, ![1024, 1024]⟩ : Shape).Idx → EReal :=
  Layout.block ⟨2, ![1024, 1024]⟩ ⟨2, ![4096, 1024]⟩ 0 4 c x

theorem row_blk (x : (⟨2, ![4096, 1024]⟩ : Shape).Idx → EReal) (c : Fin 4) (r : Fin 1024) (h : c.val * 1024 + r.val < 4096) :
    row (blk x c) r = row x ⟨c.val * 1024 + r.val, h⟩ := by
  funext l
  unfold row blk
  rw [Layout.block_apply]
  congr 1
  funext a
  match a with
  | ⟨0, _⟩ => rfl
  | ⟨1, _⟩ => rfl

theorem scaleGrad_blocks (x y : (⟨2, ![4096, 1024]⟩ : Shape).Idx → EReal) (l : Fin 1024) :
    scaleGrad x y l = ∑ c : Fin 4, scaleGrad (blk x c) (blk y c) l := by
  unfold scaleGrad
  rw [Fin.sum_univ_tiles 4 1024 rfl]
  refine Finset.sum_congr rfl fun c _ => Finset.sum_congr rfl fun r _ => ?_
  rw [row_blk, row_blk]

theorem shiftGrad_blocks (y : (⟨2, ![4096, 1024]⟩ : Shape).Idx → EReal) (l : Fin 1024) :
    shiftGrad y l = ∑ c : Fin 4, shiftGrad (blk y c) l := by
  unfold shiftGrad
  rw [Fin.sum_univ_tiles 4 1024 rfl]
  refine Finset.sum_congr rfl fun c _ => Finset.sum_congr rfl fun r _ => ?_
  rw [row_blk]

end Cert.Norm

end
-- ==== Proof.Value.lean ====
/-
The kernel's result at the extended reals: every device ends with the gradients of all four blocks, added up.
-/
module

public import proofs.«01_k».proof.Proof.Launch
public import proofs.«01_k».proof.Proof.Norm
public import Idealize.ShloMosaic.Lib.Pipeline.ValueKit

@[expose] public section

set_option maxRecDepth 16384

noncomputable section

namespace Cert.Exchange

open Cert.KernelIdeal Cert.KernelIdeal.Gen Cert.Norm
open Idealize.ShloMosaic Idealize.ShloMosaic.TcCoe

/-- Row 0 of a device's partial sums is the scale's gradient over its block, row 1 the shift's. -/
theorem partial_scale (x y : FVec Ideal S1024x1024 .f32) (l : Fin 1024) : k0_pay1 (F := Ideal) x y (ix2 0 l) = scaleGrad x y l := by
  pointwise [k0_pay1, scaleGrad, hat, off, mean, var, row, wid, eps]
theorem partial_shift (x y : FVec Ideal S1024x1024 .f32) (l : Fin 1024) : k0_pay1 (F := Ideal) x y (ix2 1 l) = shiftGrad y l := by
  pointwise [k0_pay1, shiftGrad, row]

variable {F : FTy → Type} [FloatOps F] (m : (ℓ : Loc nD τ sig) → Buf (Elt F) ℓ)

/-- The one block of each array's window is the array. -/
theorem blk_emb0 (t : Fin cfg0.N) (y : S1024x1024.Idx) : (win0_0.blk t).view.emb y = y := by
  funext a
  apply Fin.ext
  show 0 * _ + 1 * (y a : Nat) = _
  omega
theorem blk_emb1 (t : Fin cfg0.N) (y : S1024x1024.Idx) : (win0_1.blk t).view.emb y = y := by
  funext a
  apply Fin.ext
  show 0 * _ + 1 * (y a : Nat) = _
  omega
theorem blk_emb2 (t : Fin cfg0.N) (y : S2x1024.Idx) : (win0_2.blk t).view.emb y = y := by
  funext a
  apply Fin.ext
  show 0 * _ + 1 * (y a : Nat) = _
  omega

theorem xstg_eq (c : Dev nD) : xstg m c = m ((c : Thread nD τ).loc main_arg0) :=
  funext fun j => congrArg (m ((c : Thread nD τ).loc main_arg0)) (blk_emb0 t0_0 j)
theorem ystg_eq (c : Dev nD) : ystg m c = m ((c : Thread nD τ).loc main_arg1) :=
  funext fun j => congrArg (m ((c : Thread nD τ).loc main_arg1)) (blk_emb1 t0_0 j)

/-- The result array ends at what the device stored. -/
theorem finalA_out (c : Dev nD) : finalA m c (2 : Fin 3) = outAt m c := by
  refine (dats m 0 c).arrAt_eq_of_covers (2 : Fin 3) _ (by decide +kernel) fun t hf y => ?_
  exact (congrArg (outAt m c) (blk_emb2 t y)).symm

/-! ## The sum over the devices -/

/-- Starting anywhere and going round, every device is met once. -/
theorem sum_round (f : Dev nD → EReal) (c : Dev nD) : ((f c + f (fwd 2 c)) + f (fwd 1 c)) + f (fwd 0 c) = ∑ d : Fin 4, f d := by
  rw [Fin.sum_univ_four]
  fin_cases c
  · show ((f 0 + f 3) + f 2) + f 1 = _; ac_rfl
  · show ((f 1 + f 0) + f 3) + f 2 = _; ac_rfl
  · show ((f 2 + f 1) + f 0) + f 3 = _; ac_rfl
  · show ((f 3 + f 2) + f 1) + f 0 = _; ac_rfl

theorem outAt_apply (m : (ℓ : Loc nD τ sig) → Buf (Elt Ideal) ℓ) (c : Dev nD) (i : Fin 2) (l : Fin 1024) :
    outAt m c (ix2 i l) = ∑ d : Fin 4, part m d (ix2 i l) := by
  rw [← sum_round (fun d => part m d (ix2 i l)) c]
  unfold outAt
  pointwise [k0_pay2, k0_pay3, k0_pay4]

/-- Where the devices hold the four blocks of `x` and `dy`, every device ends with the gradients over all the rows. -/
theorem out_eq (m : (ℓ : Loc nD τ sig) → Buf (Elt Ideal) ℓ) (X Y : (⟨2, ![4096, 1024]⟩ : Shape).Idx → EReal)
    (hX : ∀ c : Dev nD, m ((c : Thread nD τ).loc main_arg0) = blk X c) (hY : ∀ c : Dev nD, m ((c : Thread nD τ).loc main_arg1) = blk Y c)
    (c : Dev nD) (l : Fin 1024) : outAt m c (ix2 0 l) = scaleGrad X Y l ∧ outAt m c (ix2 1 l) = shiftGrad Y l := by
  rw [outAt_apply, outAt_apply, scaleGrad_blocks, shiftGrad_blocks]
  refine ⟨Finset.sum_congr rfl fun d _ => ?_, Finset.sum_congr rfl fun d _ => ?_⟩
  · unfold part; rw [partial_scale, xstg_eq, ystg_eq, hX, hY]
  · unfold part; rw [partial_shift, ystg_eq, hY]

end Cert.Exchange

end
-- ==== Proof.Reference.lean ====
/-
The reference's result at the extended reals: the two gradients over all the rows.
-/
module

public import proofs.«01_k».proof.Proof.Gen.ReferenceIdeal
public import proofs.«01_k».proof.Proof.Norm

@[expose] public section

set_option maxRecDepth 16384

noncomputable section

namespace Cert.Whole

open Cert.ReferenceIdeal Cert.ReferenceIdeal.Gen Cert.Norm
open Idealize.ShloMosaic

variable (X Y : FVec Ideal S4096x1024 .f32)

/-- The rows' means; each element's distance from its row's; the divisor of the variance; the variances; the result. -/
def means : FVec Ideal S4096x1 .f32 :=
  Host.divf (broadcastInDim S4096x1 ![0] bcast_S4096_S4096x1_0 (Host.reduceAdd X (constant S_ .f32 0x00000000#32) reducesTo_S4096x1024_S4096_d1 h_S_))
    (broadcastInDim S4096x1 ![] bcast_S_S4096x1 (constant S_ .f32 0x44800000#32))
def offs : FVec Ideal S4096x1024 .f32 := subf X (broadcastInDim S4096x1024 ![0, 1] bcast_S4096x1_S4096x1024_0_1 (means X))
def width : FVec Ideal S_ .f32 := subf (constant S_ .f32 0x44800000#32) (sitofp .f32 (constantI S_ 32 0#32))
def vars : FVec Ideal S4096x1 .f32 :=
  select (broadcastInDim S4096x1 ![] bcast_S_S4096x1 (cmpf .ogt width (constant S_ .f32 0x00000000#32)))
    (Host.divf (broadcastInDim S4096x1 ![0] bcast_S4096_S4096x1_0
        (Host.reduceAdd (mulf (offs X) (offs X)) (constant S_ .f32 0x00000000#32) reducesTo_S4096x1024_S4096_d1 h_S_))
      (broadcastInDim S4096x1 ![] bcast_S_S4096x1 width))
    (broadcastInDim S4096x1 ![] bcast_S_S4096x1 (id (constant S_ .f32 0x7FC00000#32)))
def hats : FVec Ideal S4096x1024 .f32 :=
  mulf (offs X) (broadcastInDim S4096x1024 ![0, 1] bcast_S4096x1_S4096x1024_0_1
    (Host.divf (broadcastInDim S4096x1 ![] bcast_S_S4096x1 (constant S_ .f32 0x3F800000#32))
      (Host.sqrt (addf (vars X) (broadcastInDim S4096x1 ![] bcast_S_S4096x1 (constant S_ .f32 0x3727C5AC#32))))))
def colSum (v : FVec Ideal S4096x1024 .f32) : FVec Ideal S1x1024 .f32 :=
  broadcastInDim S1x1024 ![1] bcast_S1024_S1x1024_1 (Host.reduceAdd v (constant S_ .f32 0x00000000#32) reducesTo_S4096x1024_S1024_d0 h_S_)
def result : FVec Ideal S2x1024 .f32 :=
  concatenate S2x1024 0 [⟨S1x1024, colSum (mulf Y (hats X))⟩, ⟨S1x1024, colSum Y⟩] concatenates_S1x1024_S1x1024_S2x1024_d0

variable (r : Fin 4096) (l : Fin 1024)

theorem means_apply : means X (ix2 r 0) = mean (row X r) := by
  pointwise [means, mean, row, wid]
theorem offs_apply : offs X (ix2 r l) = off (row X r) l := by
  unfold off
  rw [← means_apply]
  pointwise [offs, row]
theorem zero_int : FloatOps.sitofp (F := Ideal) FTy.f32 0#32 = (0 : EReal) := by
  show (((0#32 : BitVec 32).toInt : ℝ) : EReal) = 0
  simp
theorem wid_pos : 0 < wid := by rw [wid_eq]; norm_num
theorem width_apply (j : S_.Idx) : width j = wid := by
  pointwise [width, wid]
  rw [show FloatOps.sitofp (F := Ideal) FTy.f32 0#32 = (0 : EReal) from zero_int]
  exact sub_zero _
theorem vars_apply : vars X (ix2 r 0) = var (row X r) := by
  unfold var
  simp only [← offs_apply]
  pointwise [vars]
  rw [width_apply, if_pos wid_pos]
theorem hats_apply : hats X (ix2 r l) = hat (row X r) l := by
  unfold hat
  rw [← root_eq, ← vars_apply, ← offs_apply]
  pointwise [hats, eps]
theorem result_scale : result X Y (ix2 0 l) = scaleGrad X Y l := by
  unfold scaleGrad
  simp only [← hats_apply]
  pointwise [result, colSum, row]
theorem result_shift : result X Y (ix2 1 l) = shiftGrad Y l := by
  pointwise [result, colSum, shiftGrad, row]

end Cert.Whole

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.ShloMosaic.TcCoe Idealize.SL.Sem

/-- The kernel's run at any float values: each device's result array at what it stored, its arguments unchanged, every
    counter at zero. -/
theorem run {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_v1) = Cert.Exchange.outAt m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0 :=
  (θ_run Cert.KernelIdeal.defs _ _).mono (fun _ h => ⟨fun c =>
      ⟨((h.1 c).1 2).trans (Cert.Exchange.finalA_out m c), ((h.1 c).1 0).trans (Cert.Exchange.finalA_x m c),
        ((h.1 c).1 1).trans (Cert.Exchange.finalA_y m c), (h.1 c).2⟩, h.2⟩)
    (Cert.Exchange.run_main m ρ)

/-- The frame, at any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0 :=
  (θ_run Cert.KernelIdeal.defs _ _).mono (fun _ h => ⟨fun c => (h.1 c).2, h.2⟩) (run m ρ)

/-- The idealized kernel runs, leaves its arguments as they were and every semaphore at zero. -/
theorem frame_ideal : Cert.quiescent_KernelIdeal := fun m ρ _ => frame_any (F := Ideal) m ρ

/-- The kernel and the idealized kernel have the same body table: there is one label, and its two bodies
    have the same text. -/
theorem same_table {F : FTy → Type} [FloatOps F] : Cert.Kernel.defs (F := F) = Cert.KernelIdeal.defs (F := F) := by
  refine congrArg (Pipeline.defs Cert.KernelIdeal.pcfgs) (congrArg Defs.onTc ?_)
  funext l a
  match l, a with
  | ⟨0, _⟩, (_, _) => exact rfl
  | ⟨_ + 1, h⟩, _ => exact absurd h (Nat.not_lt.2 (Nat.le_add_left _ _))

/-- The kernel at its own words: the same run, at the bit-exact float values. -/
theorem frame_kernel : Cert.quiescent_Kernel := fun m ρ _ => by
  rw [same_table]
  exact frame_any (F := Bits) m ρ

/-- The reference's arguments end unchanged; it has no semaphore. -/
theorem frame_reference : Cert.quiescent_ReferenceIdeal := fun m ρ _ =>
  (θ_run Cert.ReferenceIdeal.defs _ _).mono (fun _ h => ⟨fun c => (h c).2, funext fun g => nomatch g.2⟩)
    (Cert.ReferenceIdeal.Value.run (F := Ideal) m ρ)

/-- The two results agree, index by index. -/
theorem results_agree (m : (ℓ : Loc Cert.KernelIdeal.nD Cert.KernelIdeal.τ Cert.KernelIdeal.sig) → Buf (Elt Ideal) ℓ)
    (X Y : (⟨2, ![4096, 1024]⟩ : Shape).Idx → EReal)
    (hX : ∀ c : Dev Cert.KernelIdeal.nD, m ((c.tc : Thread Cert.KernelIdeal.nD Cert.KernelIdeal.τ).loc Cert.KernelIdeal.main_arg0) = Cert.Norm.blk X c)
    (hY : ∀ c : Dev Cert.KernelIdeal.nD, m ((c.tc : Thread Cert.KernelIdeal.nD Cert.KernelIdeal.τ).loc Cert.KernelIdeal.main_arg1) = Cert.Norm.blk Y c)
    (c : Dev Cert.KernelIdeal.nD) : Cert.Exchange.outAt m c = Cert.Whole.result X Y := by
  funext j
  obtain ⟨i, l, rfl⟩ : ∃ (i : Fin 2) (l : Fin 1024), j = ix2 i l := ⟨j 0, j 1, eq_ix2 j⟩
  have h := Cert.Exchange.out_eq m X Y hX hY c l
  match i with
  | 0 => exact h.1.trans (Cert.Whole.result_scale X Y l).symm
  | 1 => exact h.2.trans (Cert.Whole.result_shift X Y l).symm

/-- Over the extended reals each device's result is the reference's result on the whole arrays. -/
theorem algebraic : Cert.algebraic_KernelIdeal_ReferenceIdeal := fun m ρ m' ρ' _ hin =>
  ⟨Cert.Whole.result (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c =>
      ⟨(h.1 c).1.trans (results_agree m _ _ (fun c => (hin c).1) (fun c => (hin c).2.1) c), (h.1 c).2⟩) (run (F := Ideal) m ρ),
    (θ_run Cert.ReferenceIdeal.defs _ _).mono (fun _ h => ⟨(h 0).1.trans rfl, (h 0).2⟩) (Cert.ReferenceIdeal.Value.run (F := Ideal) m' ρ')⟩

/-- The certificate's claims together. -/
theorem claim : Cert.Claim := ⟨Cert.Kernel.Gen.facts, Cert.KernelIdeal.Gen.facts, Cert.ReferenceIdeal.Gen.facts,
  frame_kernel, frame_ideal, frame_reference, trivial, algebraic⟩

end Cert.Proof

end
